-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .bf16) (main_arg1 : FVec F S1024x1024 .bf16) (main_arg2 : FVec F S1x2048x8x128 .f32) (main_arg3 : FVec F S1x2048x8x128 .f32) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x8x128 .f32 := Host.absf main_arg2
  let main_cst_2 : FVec F S_ .f32 := constant S_ .f32 0x7F800000#32
  let main_v12 : FVec F S1x2048x8x128 .f32 := broadcastInDim S1x2048x8x128 ![] bcast_S_S1x2048x8x128 main_cst_2
  let main_v13 : IVec S1x2048x8x128 1 := cmpf .olt main_v11 main_v12
  let main_c_3 : IVec S_ 1 := constantI S_ 1 1#1
  let main_v14 : IVec S_ 1 := (fun x v => Host.reduce IntOp.andi x v reducesTo_S1x2048x8x128_S_d0_1_2_3 h_S_) main_v13 main_c_3
  let main_v15 : IVec S_ 1 := andi main_v10 main_v14
  main_v15
-- ==== Pre_finite_ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x2048x1024 .bf16) (main_arg1 : FVec F S1024x1024 .bf16) (main_arg2 : FVec F S1x16384x8x128 .f32) (main_arg3 : FVec F S1x16384x8x128 .f32) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x16384x8x128 .f32 := Host.absf main_arg2
  let main_cst_2 : FVec F S_ .f32 := constant S_ .f32 0x7F800000#32
  let main_v12 : FVec F S1x16384x8x128 .f32 := broadcastInDim S1x16384x8x128 ![] bcast_S_S1x16384x8x128 main_cst_2
  let main_v13 : IVec S1x16384x8x128 1 := cmpf .olt main_v11 main_v12
  let main_c_3 : IVec S_ 1 := constantI S_ 1 1#1
  let main_v14 : IVec S_ 1 := (fun x v => Host.reduce IntOp.andi x v reducesTo_S1x16384x8x128_S_d0_1_2_3 h_S_) main_v13 main_c_3
  let main_v15 : IVec S_ 1 := andi main_v10 main_v14
  main_v15
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2304x1024 : Shape := ⟨2, ![2304, 1024]⟩
abbrev S2x2048x8x128 : Shape := ⟨4, ![2, 2048, 8, 128]⟩
abbrev S2x256x8x128 : Shape := ⟨4, ![2, 256, 8, 128]⟩
abbrev S2x256x1024 : Shape := ⟨3, ![2, 256, 1024]⟩
abbrev S2 : Shape := ⟨1, ![2]⟩
abbrev S_ : Shape := ⟨0, ![]⟩
abbrev S8x3 : Shape := ⟨2, ![8, 3]⟩
abbrev S8 : Shape := ⟨1, ![8]⟩
abbrev S1 : Shape := ⟨1, ![1]⟩
abbrev S1x256x8x128 : Shape := ⟨4, ![1, 256, 8, 128]⟩
abbrev S256x8x128 : Shape := ⟨3, ![256, 8, 128]⟩
abbrev S256x1024 : Shape := ⟨2, ![256, 1024]⟩
abbrev S1x256x1024 : Shape := ⟨3, ![1, 256, 1024]⟩
abbrev S2048x8x128 : Shape := ⟨3, ![2048, 8, 128]⟩
abbrev S2048x1024 : Shape := ⟨2, ![2048, 1024]⟩
abbrev S256x512 : Shape := ⟨2, ![256, 512]⟩
abbrev S512x1024 : Shape := ⟨2, ![512, 1024]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x8x128, .f32⟩
  | .hbm, ⟨3, _⟩ => ⟨S1x2048x8x128, .f32⟩
  | .hbm, ⟨4, _⟩ => ⟨S1024x1024, .bf16⟩
  | .hbm, ⟨5, _⟩ => ⟨S1x2048x1024, .bf16⟩
  | .local _ .vmem, ⟨0, _⟩ => ⟨S1x2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x1024, .bf16⟩
  | .local _ .vmem, ⟨4, _⟩ => ⟨S2304x1024, .bf16⟩
  | .local _ .vmem, ⟨5, _⟩ => ⟨S2304x1024, .bf16⟩
  | .local _ .vmem, ⟨6, _⟩ => ⟨S2x2048x8x128, .f32⟩
  | .local _ .vmem, ⟨7, _⟩ => ⟨S2x256x8x128, .f32⟩
  | .local _ .vmem, ⟨8, _⟩ => ⟨S2x256x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v16 : BitVec 1 := Scalar.cmpi .eq v2 c7_i32_6
  let c4_i32_7 : BitVec 32 := 4#32
  let c6_i32 : BitVec 32 := 6#32
  let v14 : BitVec 1 := Scalar.cmpi .eq v2 c6_i32
  let c7_i32 : BitVec 32 := 7#32
  let c5_i32 : BitVec 32 := 5#32
  let v12 : BitVec 1 := Scalar.cmpi .eq v2 c5_i32
  let c4_i32_5 : BitVec 32 := 4#32
  let c4_i32 : BitVec 32 := 4#32
  let v10 : BitVec 1 := Scalar.cmpi .eq v2 c4_i32
  let c0_i32_4 : BitVec 32 := 0#32
  let c3_i32_2 : BitVec 32 := 3#32
  let v8 : BitVec 1 := Scalar.cmpi .eq v2 c3_i32_2
  let c0_i32_3 : BitVec 32 := 0#32
  let c2_i32 : BitVec 32 := 2#32
  let v6 : BitVec 1 := Scalar.cmpi .eq v2 c2_i32
  let c3_i32 : BitVec 32 := 3#32
  let c1_i32_0 : BitVec 32 := 1#32
  let v4 : BitVec 1 := Scalar.cmpi .eq v2 c1_i32_0
  let c0_i32 : BitVec 32 := 0#32
  let c1_i32_1 : BitVec 32 := 1#32
  let v5 : BitVec 32 := Scalar.select v4 c0_i32 c1_i32_1
  let v7 : BitVec 32 := Scalar.select v6 c3_i32 v5
  let v9 : BitVec 32 := Scalar.select v8 c0_i32_3 v7
  let v11 : BitVec 32 := Scalar.select v10 c0_i32_4 v9
  let v13 : BitVec 32 := Scalar.select v12 c4_i32_5 v11
  let v15 : BitVec 32 := Scalar.select v14 c7_i32 v13
  let v17 : BitVec 32 := Scalar.select v16 c4_i32_7 v15
  let c1_i32_9 : BitVec 32 := 1#32
  let v18 : BitVec 32 := Scalar.muli v17 c1_i32_9
  let v19 : BitVec 32 := Scalar.addi c0_i32_10 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v20 : BitVec 1 := Scalar.cmpi .eq v2 c1_i32_11
  let v21 : BitVec 32 := Scalar.extui v20
  let c0_i32_12 : BitVec 32 := 0#32
  let v22 : BitVec 1 := Scalar.cmpi .ne v21 c0_i32_12
  v22

def k0_dev2 : Nat :=
  let c0_i32_80 : BitVec 32 := 0#32
  let c0_i32_78 : BitVec 32 := 0#32
  let c1_i32_79 : BitVec 32 := 1#32
  let v85 : BitVec 32 := Scalar.muli c0_i32_78 c1_i32_79
  let v86 : BitVec 32 := Scalar.addi c0_i32_80 v85
  v86.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v23 : BitVec 1 := Scalar.cmpi .eq v2 c0_i32_13
  let v24 : BitVec 32 := Scalar.extui v23
  let c0_i32_14 : BitVec 32 := 0#32
  let v25 : BitVec 1 := Scalar.cmpi .ne v24 c0_i32_14
  v25

def k0_dev3 : Nat :=
  let c0_i32_137 : BitVec 32 := 0#32
  let c4_i32_135 : BitVec 32 := 4#32
  let c1_i32_136 : BitVec 32 := 1#32
  let v241 : BitVec 32 := Scalar.muli c4_i32_135 c1_i32_136
  let v242 : BitVec 32 := Scalar.addi c0_i32_137 v241
  v242.toNat
def k0_dev4 : Nat :=
  let c0_i32_149 : BitVec 32 := 0#32
  let c3_i32_147 : BitVec 32 := 3#32
  let c1_i32_148 : BitVec 32 := 1#32
  let v251 : BitVec 32 := Scalar.muli c3_i32_147 c1_i32_148
  let v252 : BitVec 32 := Scalar.addi c0_i32_149 v251
  v252.toNat
def k0_dev5 : Nat :=
  let c0_i32_161 : BitVec 32 := 0#32
  let c1_i32_159 : BitVec 32 := 1#32
  let c1_i32_160 : BitVec 32 := 1#32
  let v261 : BitVec 32 := Scalar.muli c1_i32_159 c1_i32_160
  let v262 : BitVec 32 := Scalar.addi c0_i32_161 v261
  v262.toNat
def k0_dev6 : Nat :=
  let c0_i32_216 : BitVec 32 := 0#32
  let c4_i32_214 : BitVec 32 := 4#32
  let c1_i32_215 : BitVec 32 := 1#32
  let v405 : BitVec 32 := Scalar.muli c4_i32_214 c1_i32_215
  let v406 : BitVec 32 := Scalar.addi c0_i32_216 v405
  v406.toNat
def k0_dev7 : Nat :=
  let c0_i32_227 : BitVec 32 := 0#32
  let c3_i32_225 : BitVec 32 := 3#32
  let c1_i32_226 : BitVec 32 := 1#32
  let v415 : BitVec 32 := Scalar.muli c3_i32_225 c1_i32_226
  let v416 : BitVec 32 := Scalar.addi c0_i32_227 v415
  v416.toNat
def k0_dev8 : Nat :=
  let c0_i32_239 : BitVec 32 := 0#32
  let c1_i32_237 : BitVec 32 := 1#32
  let c1_i32_238 : BitVec 32 := 1#32
  let v425 : BitVec 32 := Scalar.muli c1_i32_237 c1_i32_238
  let v426 : BitVec 32 := Scalar.addi c0_i32_239 v425
  v426.toNat
def k0_dev9 : Nat :=
  let c0_i32_294 : BitVec 32 := 0#32
  let c4_i32_292 : BitVec 32 := 4#32
  let c1_i32_293 : BitVec 32 := 1#32
  let v569 : BitVec 32 := Scalar.muli c4_i32_292 c1_i32_293
  let v570 : BitVec 32 := Scalar.addi c0_i32_294 v569
  v570.toNat
def k0_dev10 : Nat :=
  let c0_i32_305 : BitVec 32 := 0#32
  let c3_i32_303 : BitVec 32 := 3#32
  let c1_i32_304 : BitVec 32 := 1#32
  let v579 : BitVec 32 := Scalar.muli c3_i32_303 c1_i32_304
  let v580 : BitVec 32 := Scalar.addi c0_i32_305 v579
  v580.toNat
def k0_dev11 : Nat :=
  let c0_i32_317 : BitVec 32 := 0#32
  let c1_i32_315 : BitVec 32 := 1#32
  let c1_i32_316 : BitVec 32 := 1#32
  let v589 : BitVec 32 := Scalar.muli c1_i32_315 c1_i32_316
  let v590 : BitVec 32 := Scalar.addi c0_i32_317 v589
  v590.toNat
def k0_dev12 : Nat :=
  let c0_i32_372 : BitVec 32 := 0#32
  let c4_i32_370 : BitVec 32 := 4#32
  let c1_i32_371 : BitVec 32 := 1#32
  let v733 : BitVec 32 := Scalar.muli c4_i32_370 c1_i32_371
  let v734 : BitVec 32 := Scalar.addi c0_i32_372 v733
  v734.toNat
def k0_dev13 : Nat :=
  let c0_i32_383 : BitVec 32 := 0#32
  let c3_i32_381 : BitVec 32 := 3#32
  let c1_i32_382 : BitVec 32 := 1#32
  let v743 : BitVec 32 := Scalar.muli c3_i32_381 c1_i32_382
  let v744 : BitVec 32 := Scalar.addi c0_i32_383 v743
  v744.toNat
def k0_dev14 : Nat :=
  let c0_i32_395 : BitVec 32 := 0#32
  let c1_i32_393 : BitVec 32 := 1#32
  let c1_i32_394 : BitVec 32 := 1#32
  let v753 : BitVec 32 := Scalar.muli c1_i32_393 c1_i32_394
  let v754 : BitVec 32 := Scalar.addi c0_i32_395 v753
  v754.toNat
def k0_dev15 : Nat :=
  let c0_i32_450 : BitVec 32 := 0#32
  let c4_i32_448 : BitVec 32 := 4#32
  let c1_i32_449 : BitVec 32 := 1#32
  let v897 : BitVec 32 := Scalar.muli c4_i32_448 c1_i32_449
  let v898 : BitVec 32 := Scalar.addi c0_i32_450 v897
  v898.toNat
def k0_dev16 : Nat :=
  let c0_i32_461 : BitVec 32 := 0#32
  let c3_i32_459 : BitVec 32 := 3#32
  let c1_i32_460 : BitVec 32 := 1#32
  let v907 : BitVec 32 := Scalar.muli c3_i32_459 c1_i32_460
  let v908 : BitVec 32 := Scalar.addi c0_i32_461 v907
  v908.toNat
def k0_dev17 : Nat :=
  let c0_i32_473 : BitVec 32 := 0#32
  let c1_i32_471 : BitVec 32 := 1#32
  let c1_i32_472 : BitVec 32 := 1#32
  let v917 : BitVec 32 := Scalar.muli c1_i32_471 c1_i32_472
  let v918 : BitVec 32 := Scalar.addi c0_i32_473 v917
  v918.toNat
def k0_dev18 : Nat :=
  let c0_i32_528 : BitVec 32 := 0#32
  let c4_i32_526 : BitVec 32 := 4#32
  let c1_i32_527 : BitVec 32 := 1#32
  let v1061 : BitVec 32 := Scalar.muli c4_i32_526 c1_i32_527
  let v1062 : BitVec 32 := Scalar.addi c0_i32_528 v1061
  v1062.toNat
def k0_dev19 : Nat :=
  let c0_i32_539 : BitVec 32 := 0#32
  let c3_i32_537 : BitVec 32 := 3#32
  let c1_i32_538 : BitVec 32 := 1#32
  let v1071 : BitVec 32 := Scalar.muli c3_i32_537 c1_i32_538
  let v1072 : BitVec 32 := Scalar.addi c0_i32_539 v1071
  v1072.toNat
def k0_dev20 : Nat :=
  let c0_i32_551 : BitVec 32 := 0#32
  let c1_i32_549 : BitVec 32 := 1#32
  let c1_i32_550 : BitVec 32 := 1#32
  let v1081 : BitVec 32 := Scalar.muli c1_i32_549 c1_i32_550
  let v1082 : BitVec 32 := Scalar.addi c0_i32_551 v1081
  v1082.toNat
def k0_dev21 : Nat :=
  let c0_i32_606 : BitVec 32 := 0#32
  let c4_i32_604 : BitVec 32 := 4#32
  let c1_i32_605 : BitVec 32 := 1#32
  let v1225 : BitVec 32 := Scalar.muli c4_i32_604 c1_i32_605
  let v1226 : BitVec 32 := Scalar.addi c0_i32_606 v1225
  v1226.toNat
def k0_dev22 : Nat :=
  let c0_i32_617 : BitVec 32 := 0#32
  let c3_i32_615 : BitVec 32 := 3#32
  let c1_i32_616 : BitVec 32 := 1#32
  let v1235 : BitVec 32 := Scalar.muli c3_i32_615 c1_i32_616
  let v1236 : BitVec 32 := Scalar.addi c0_i32_617 v1235
  v1236.toNat
def k0_dev23 : Nat :=
  let c0_i32_629 : BitVec 32 := 0#32
  let c1_i32_627 : BitVec 32 := 1#32
  let c1_i32_628 : BitVec 32 := 1#32
  let v1245 : BitVec 32 := Scalar.muli c1_i32_627 c1_i32_628
  let v1246 : BitVec 32 := Scalar.addi c0_i32_629 v1245
  v1246.toNat
def k0_dev24 : Nat :=
  let c0_i32_696 : BitVec 32 := 0#32
  let c4_i32_694 : BitVec 32 := 4#32
  let c1_i32_695 : BitVec 32 := 1#32
  let v1401 : BitVec 32 := Scalar.muli c4_i32_694 c1_i32_695
  let v1402 : BitVec 32 := Scalar.addi c0_i32_696 v1401
  v1402.toNat
def k0_dev25 : Nat :=
  let c0_i32_707 : BitVec 32 := 0#32
  let c3_i32_705 : BitVec 32 := 3#32
  let c1_i32_706 : BitVec 32 := 1#32
  let v1411 : BitVec 32 := Scalar.muli c3_i32_705 c1_i32_706
  let v1412 : BitVec 32 := Scalar.addi c0_i32_707 v1411
  v1412.toNat
def k0_dev26 : Nat :=
  let c0_i32_719 : BitVec 32 := 0#32
  let c1_i32_717 : BitVec 32 := 1#32
  let c1_i32_718 : BitVec 32 := 1#32
  let v1421 : BitVec 32 := Scalar.muli c1_i32_717 c1_i32_718
  let v1422 : BitVec 32 := Scalar.addi c0_i32_719 v1421
  v1422.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v32 : BitVec 1 := Scalar.cmpi .eq v2 c3_i32_19
  let v33 : BitVec 32 := Scalar.extui v32
  let c0_i32_20 : BitVec 32 := 0#32
  let v34 : BitVec 1 := Scalar.cmpi .ne v33 c0_i32_20
  v34

def k0_dev27 : Nat :=
  let c0_i32_49 : BitVec 32 := 0#32
  let c2_i32_47 : BitVec 32 := 2#32
  let c1_i32_48 : BitVec 32 := 1#32
  let v55 : BitVec 32 := Scalar.muli c2_i32_47 c1_i32_48
  let v56 : BitVec 32 := Scalar.addi c0_i32_49 v55
  v56.toNat
def k0_dev28 : Nat :=
  let c0_i32_72 : BitVec 32 := 0#32
  let c2_i32_70 : BitVec 32 := 2#32
  let c1_i32_71 : BitVec 32 := 1#32
  let v73 : BitVec 32 := Scalar.muli c2_i32_70 c1_i32_71
  let v74 : BitVec 32 := Scalar.addi c0_i32_72 v73
  v74.toNat
def k0_dev29 : Nat :=
  let c0_i32_95 : BitVec 32 := 0#32
  let c2_i32_93 : BitVec 32 := 2#32
  let c1_i32_94 : BitVec 32 := 1#32
  let v91 : BitVec 32 := Scalar.muli c2_i32_93 c1_i32_94
  let v92 : BitVec 32 := Scalar.addi c0_i32_95 v91
  v92.toNat
def k0_dev30 : Nat :=
  let c0_i32_118 : BitVec 32 := 0#32
  let c2_i32_116 : BitVec 32 := 2#32
  let c1_i32_117 : BitVec 32 := 1#32
  let v109 : BitVec 32 := Scalar.muli c2_i32_116 c1_i32_117
  let v110 : BitVec 32 := Scalar.addi c0_i32_118 v109
  v110.toNat
def k0_dev31 : Nat :=
  let c0_i32_141 : BitVec 32 := 0#32
  let c2_i32_139 : BitVec 32 := 2#32
  let c1_i32_140 : BitVec 32 := 1#32
  let v127 : BitVec 32 := Scalar.muli c2_i32_139 c1_i32_140
  let v128 : BitVec 32 := Scalar.addi c0_i32_141 v127
  v128.toNat
def k0_dev32 : Nat :=
  let c0_i32_164 : BitVec 32 := 0#32
  let c2_i32_162 : BitVec 32 := 2#32
  let c1_i32_163 : BitVec 32 := 1#32
  let v145 : BitVec 32 := Scalar.muli c2_i32_162 c1_i32_163
  let v146 : BitVec 32 := Scalar.addi c0_i32_164 v145
  v146.toNat
def k0_dev33 : Nat :=
  let c0_i32_187 : BitVec 32 := 0#32
  let c2_i32_185 : BitVec 32 := 2#32
  let c1_i32_186 : BitVec 32 := 1#32
  let v163 : BitVec 32 := Scalar.muli c2_i32_185 c1_i32_186
  let v164 : BitVec 32 := Scalar.addi c0_i32_187 v163
  v164.toNat
def k0_dev34 : Nat :=
  let c0_i32_210 : BitVec 32 := 0#32
  let c2_i32_208 : BitVec 32 := 2#32
  let c1_i32_209 : BitVec 32 := 1#32
  let v181 : BitVec 32 := Scalar.muli c2_i32_208 c1_i32_209
  let v182 : BitVec 32 := Scalar.addi c0_i32_210 v181
  v182.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v35 : BitVec 1 := Scalar.cmpi .eq v2 c4_i32_21
  let v36 : BitVec 32 := Scalar.extui v35
  let c0_i32_22 : BitVec 32 := 0#32
  let v37 : BitVec 1 := Scalar.cmpi .ne v36 c0_i32_22
  v37

def k0_dev35 : Nat :=
  let c0_i32_49 : BitVec 32 := 0#32
  let c7_i32_47 : BitVec 32 := 7#32
  let c1_i32_48 : BitVec 32 := 1#32
  let v55 : BitVec 32 := Scalar.muli c7_i32_47 c1_i32_48
  let v56 : BitVec 32 := Scalar.addi c0_i32_49 v55
  v56.toNat
def k0_dev36 : Nat :=
  let c0_i32_61 : BitVec 32 := 0#32
  let c5_i32_59 : BitVec 32 := 5#32
  let c1_i32_60 : BitVec 32 := 1#32
  let v65 : BitVec 32 := Scalar.muli c5_i32_59 c1_i32_60
  let v66 : BitVec 32 := Scalar.addi c0_i32_61 v65
  v66.toNat
def k0_dev37 : Nat :=
  let c0_i32_84 : BitVec 32 := 0#32
  let c7_i32_82 : BitVec 32 := 7#32
  let c1_i32_83 : BitVec 32 := 1#32
  let v83 : BitVec 32 := Scalar.muli c7_i32_82 c1_i32_83
  let v84 : BitVec 32 := Scalar.addi c0_i32_84 v83
  v84.toNat
def k0_dev38 : Nat :=
  let c0_i32_96 : BitVec 32 := 0#32
  let c5_i32_94 : BitVec 32 := 5#32
  let c1_i32_95 : BitVec 32 := 1#32
  let v93 : BitVec 32 := Scalar.muli c5_i32_94 c1_i32_95
  let v94 : BitVec 32 := Scalar.addi c0_i32_96 v93
  v94.toNat
def k0_dev39 : Nat :=
  let c0_i32_119 : BitVec 32 := 0#32
  let c7_i32_117 : BitVec 32 := 7#32
  let c1_i32_118 : BitVec 32 := 1#32
  let v111 : BitVec 32 := Scalar.muli c7_i32_117 c1_i32_118
  let v112 : BitVec 32 := Scalar.addi c0_i32_119 v111
  v112.toNat
def k0_dev40 : Nat :=
  let c0_i32_131 : BitVec 32 := 0#32
  let c5_i32_129 : BitVec 32 := 5#32
  let c1_i32_130 : BitVec 32 := 1#32
  let v121 : BitVec 32 := Scalar.muli c5_i32_129 c1_i32_130
  let v122 : BitVec 32 := Scalar.addi c0_i32_131 v121
  v122.toNat
def k0_dev41 : Nat :=
  let c0_i32_154 : BitVec 32 := 0#32
  let c7_i32_152 : BitVec 32 := 7#32
  let c1_i32_153 : BitVec 32 := 1#32
  let v139 : BitVec 32 := Scalar.muli c7_i32_152 c1_i32_153
  let v140 : BitVec 32 := Scalar.addi c0_i32_154 v139
  v140.toNat
def k0_dev42 : Nat :=
  let c0_i32_166 : BitVec 32 := 0#32
  let c5_i32_164 : BitVec 32 := 5#32
  let c1_i32_165 : BitVec 32 := 1#32
  let v149 : BitVec 32 := Scalar.muli c5_i32_164 c1_i32_165
  let v150 : BitVec 32 := Scalar.addi c0_i32_166 v149
  v150.toNat
def k0_dev43 : Nat :=
  let c0_i32_189 : BitVec 32 := 0#32
  let c7_i32_187 : BitVec 32 := 7#32
  let c1_i32_188 : BitVec 32 := 1#32
  let v167 : BitVec 32 := Scalar.muli c7_i32_187 c1_i32_188
  let v168 : BitVec 32 := Scalar.addi c0_i32_189 v167
  v168.toNat
def k0_dev44 : Nat :=
  let c0_i32_201 : BitVec 32 := 0#32
  let c5_i32_199 : BitVec 32 := 5#32
  let c1_i32_200 : BitVec 32 := 1#32
  let v177 : BitVec 32 := Scalar.muli c5_i32_199 c1_i32_200
  let v178 : BitVec 32 := Scalar.addi c0_i32_201 v177
  v178.toNat
def k0_dev45 : Nat :=
  let c0_i32_224 : BitVec 32 := 0#32
  let c7_i32_222 : BitVec 32 := 7#32
  let c1_i32_223 : BitVec 32 := 1#32
  let v195 : BitVec 32 := Scalar.muli c7_i32_222 c1_i32_223
  let v196 : BitVec 32 := Scalar.addi c0_i32_224 v195
  v196.toNat
def k0_dev46 : Nat :=
  let c0_i32_236 : BitVec 32 := 0#32
  let c5_i32_234 : BitVec 32 := 5#32
  let c1_i32_235 : BitVec 32 := 1#32
  let v205 : BitVec 32 := Scalar.muli c5_i32_234 c1_i32_235
  let v206 : BitVec 32 := Scalar.addi c0_i32_236 v205
  v206.toNat
def k0_dev47 : Nat :=
  let c0_i32_259 : BitVec 32 := 0#32
  let c7_i32_257 : BitVec 32 := 7#32
  let c1_i32_258 : BitVec 32 := 1#32
  let v223 : BitVec 32 := Scalar.muli c7_i32_257 c1_i32_258
  let v224 : BitVec 32 := Scalar.addi c0_i32_259 v223
  v224.toNat
def k0_dev48 : Nat :=
  let c0_i32_271 : BitVec 32 := 0#32
  let c5_i32_269 : BitVec 32 := 5#32
  let c1_i32_270 : BitVec 32 := 1#32
  let v233 : BitVec 32 := Scalar.muli c5_i32_269 c1_i32_270
  let v234 : BitVec 32 := Scalar.addi c0_i32_271 v233
  v234.toNat
def k0_dev49 : Nat :=
  let c0_i32_294 : BitVec 32 := 0#32
  let c7_i32_292 : BitVec 32 := 7#32
  let c1_i32_293 : BitVec 32 := 1#32
  let v251 : BitVec 32 := Scalar.muli c7_i32_292 c1_i32_293
  let v252 : BitVec 32 := Scalar.addi c0_i32_294 v251
  v252.toNat
def k0_dev50 : Nat :=
  let c0_i32_306 : BitVec 32 := 0#32
  let c5_i32_304 : BitVec 32 := 5#32
  let c1_i32_305 : BitVec 32 := 1#32
  let v261 : BitVec 32 := Scalar.muli c5_i32_304 c1_i32_305
  let v262 : BitVec 32 := Scalar.addi c0_i32_306 v261
  v262.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_27 : BitVec 32 := 7#32
  let v44 : BitVec 1 := Scalar.cmpi .eq v2 c7_i32_27
  let v45 : BitVec 32 := Scalar.extui v44
  let c0_i32_28 : BitVec 32 := 0#32
  let v46 : BitVec 1 := Scalar.cmpi .ne v45 c0_i32_28
  v46

def k0_dev51 : Nat :=
  let c0_i32_49 : BitVec 32 := 0#32
  let c6_i32_47 : BitVec 32 := 6#32
  let c1_i32_48 : BitVec 32 := 1#32
  let v55 : BitVec 32 := Scalar.muli c6_i32_47 c1_i32_48
  let v56 : BitVec 32 := Scalar.addi c0_i32_49 v55
  v56.toNat
def k0_dev52 : Nat :=
  let c0_i32_72 : BitVec 32 := 0#32
  let c6_i32_70 : BitVec 32 := 6#32
  let c1_i32_71 : BitVec 32 := 1#32
  let v73 : BitVec 32 := Scalar.muli c6_i32_70 c1_i32_71
  let v74 : BitVec 32 := Scalar.addi c0_i32_72 v73
  v74.toNat
def k0_dev53 : Nat :=
  let c0_i32_95 : BitVec 32 := 0#32
  let c6_i32_93 : BitVec 32 := 6#32
  let c1_i32_94 : BitVec 32 := 1#32
  let v91 : BitVec 32 := Scalar.muli c6_i32_93 c1_i32_94
  let v92 : BitVec 32 := Scalar.addi c0_i32_95 v91
  v92.toNat
def k0_dev54 : Nat :=
  let c0_i32_118 : BitVec 32 := 0#32
  let c6_i32_116 : BitVec 32 := 6#32
  let c1_i32_117 : BitVec 32 := 1#32
  let v109 : BitVec 32 := Scalar.muli c6_i32_116 c1_i32_117
  let v110 : BitVec 32 := Scalar.addi c0_i32_118 v109
  v110.toNat
def k0_dev55 : Nat :=
  let c0_i32_141 : BitVec 32 := 0#32
  let c6_i32_139 : BitVec 32 := 6#32
  let c1_i32_140 : BitVec 32 := 1#32
  let v127 : BitVec 32 := Scalar.muli c6_i32_139 c1_i32_140
  let v128 : BitVec 32 := Scalar.addi c0_i32_141 v127
  v128.toNat
def k0_dev56 : Nat :=
  let c0_i32_164 : BitVec 32 := 0#32
  let c6_i32_162 : BitVec 32 := 6#32
  let c1_i32_163 : BitVec 32 := 1#32
  let v145 : BitVec 32 := Scalar.muli c6_i32_162 c1_i32_163
  let v146 : BitVec 32 := Scalar.addi c0_i32_164 v145
  v146.toNat
def k0_dev57 : Nat :=
  let c0_i32_187 : BitVec 32 := 0#32
  let c6_i32_185 : BitVec 32 := 6#32
  let c1_i32_186 : BitVec 32 := 1#32
  let v163 : BitVec 32 := Scalar.muli c6_i32_185 c1_i32_186
  let v164 : BitVec 32 := Scalar.addi c0_i32_187 v163
  v164.toNat
def k0_dev58 : Nat :=
  let c0_i32_210 : BitVec 32 := 0#32
  let c6_i32_208 : BitVec 32 := 6#32
  let c1_i32_209 : BitVec 32 := 1#32
  let v181 : BitVec 32 := Scalar.muli c6_i32_208 c1_i32_209
  let v182 : BitVec 32 := Scalar.addi c0_i32_210 v181
  v182.toNat
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S1x2048x8x128 : Shape := ⟨4, ![1, 2048, 8, 128]⟩
abbrev S2048 : Shape := ⟨1, ![2048]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S_ : Shape := ⟨0, ![]⟩
abbrev S1x8x2048x16384 : Shape := ⟨4, ![1, 8, 2048, 16384]⟩
abbrev S1x1x2048x16384 : Shape := ⟨4, ![1, 1, 2048, 16384]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x16384x8x128, .f32⟩
  | .hbm, ⟨3, _⟩ => ⟨S1x16384x8x128, .f32⟩
  | .hbm, ⟨4, _⟩ => ⟨S1024x1024, .bf16⟩
  | .hbm, ⟨5, _⟩ => ⟨S1x2048x1024, .f32⟩
  | .hbm, ⟨6, _⟩ => ⟨S1x2048x1024, .bf16⟩
  | .hbm, ⟨7, _⟩ => ⟨S1x2048x8x128, .bf16⟩
  | .hbm, ⟨8, _⟩ => ⟨S2048, .i32⟩
  | .hbm, ⟨9, _⟩ => ⟨S2048x1, .i32⟩
  | .hbm, ⟨10, _⟩ => ⟨S16384, .i32⟩
  | .hbm, ⟨11, _⟩ => ⟨S1x16384, .i32⟩
  | .hbm, ⟨12, _⟩ => ⟨S2048x16384, .i32⟩
  | .hbm, ⟨13, _⟩ => ⟨S2048x16384, .i32⟩
  | .hbm, ⟨14, _⟩ => ⟨S2048x16384, .i32⟩
  | .hbm, ⟨15, _⟩ => ⟨S2048x16384, .i32⟩
  | .hbm, ⟨16, _⟩ => ⟨S_, .i32⟩
  | .hbm, ⟨17, _⟩ => ⟨S2048x16384, .i32⟩
  | .hbm, ⟨18, _⟩ => ⟨S2048x16384, .i1⟩
  | .hbm, ⟨19, _⟩ => ⟨S1x2048x8x128, .f32⟩
  | .hbm, ⟨20, _⟩ => ⟨S1x8x2048x16384, .f32⟩
  | .hbm, ⟨21, _⟩ => ⟨S_, .f32⟩
  | .hbm, ⟨22, _⟩ => ⟨S1x8x2048x16384, .f32⟩
  | .hbm, ⟨23, _⟩ => ⟨S1x8x2048x16384, .f32⟩
  | .hbm, ⟨24, _⟩ => ⟨S1x1x2048x16384, .i1⟩
  | .hbm, ⟨25, _⟩ => ⟨S_, .f32⟩
  | .hbm, ⟨26, _⟩ => ⟨S_, .f32⟩
  | .hbm, ⟨27, _⟩ => ⟨S1x8x2048x16384, .i1⟩
  | .hbm, ⟨28, _⟩ => ⟨S1x8x2048x16384, .f32⟩
  | .hbm, ⟨29, _⟩ => ⟨S1x8x2048x16384, .f32⟩
  | .hbm, ⟨30, _⟩ => ⟨S_, .f32⟩
  | .hbm, ⟨31, _⟩ => ⟨S1x8x2048, .f32⟩
  | .hbm, ⟨32, _⟩ => ⟨S1x8x2048x1, .f32⟩
  | .hbm, ⟨33, _⟩ => ⟨S1x8x2048x16384, .f32⟩
  | .hbm, ⟨34, _⟩ => ⟨S1x8x2048x16384, .f32⟩
  | .hbm, ⟨35, _⟩ => ⟨S1x8x2048x16384, .f32⟩
  | .hbm, ⟨36, _⟩ => ⟨S_, .i1⟩
  | .hbm, ⟨37, _⟩ => ⟨S2048, .i1⟩
  | .hbm, ⟨38, _⟩ => ⟨S1x1x2048x1, .i1⟩
  | .hbm, ⟨39, _⟩ => ⟨S_, .f32⟩
  | .hbm, ⟨40, _⟩ => ⟨S1x8x2048, .f32⟩
  | .hbm, ⟨41, _⟩ => ⟨S1x8x2048x1, .f32⟩
  | .hbm, ⟨42, _⟩ => ⟨S_, .f32⟩
  | .hbm, ⟨43, _⟩ => ⟨S_, .f32⟩
  | .hbm, ⟨44, _⟩ => ⟨S1x8x2048x1, .i1⟩
  | .hbm, ⟨45, _⟩ => ⟨S1x8x2048x1, .f32⟩
  | .hbm, ⟨46, _⟩ => ⟨S1x8x2048x1, .f32⟩
  | .hbm, ⟨47, _⟩ => ⟨S1x8x2048x16384, .f32⟩
  | .hbm, ⟨48, _⟩ => ⟨S1x8x2048x16384, .f32⟩
  | .hbm, ⟨49, _⟩ => ⟨S1x1x2048x1, .i1⟩
  | .hbm, ⟨50, _⟩ => ⟨S_, .f32⟩
  | .hbm, ⟨51, _⟩ => ⟨S_, .f32⟩
  | .hbm, ⟨52, _⟩ => ⟨S1x8x2048x16384, .i1⟩
  | .hbm, ⟨53, _⟩ => ⟨S1x8x2048x16384, .f32⟩
  | .hbm, ⟨54, _⟩ => ⟨S1x8x2048x16384, .f32⟩
  | .hbm, ⟨55, _⟩ => ⟨S1x8x128x2048, .f32⟩
  | .hbm, ⟨56, _⟩ => ⟨S1x2048x8x128, .f32⟩
  | .hbm, ⟨57, _⟩ => ⟨S1x2048x1024, .f32⟩
  | .hbm, ⟨58, _⟩ => ⟨S1024x1024, .f32⟩
  | .hbm, ⟨59, _⟩ => ⟨S1x2048x1024, .f32⟩
  | .hbm, ⟨60, _⟩ => ⟨S1x2048x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Sched.lean ====
/-
  The round structure of the kernel's semaphores.

  The devices form a tree: `source d` is the device whose remote copies land in `d`'s memory. Device 1 sends device 0 the
  edge rows of K and V; device 0 sends each finished block of 256 rows to its three children, and they pass it on.
  Before a device's first remote copy every device it sends to has signalled it (`barCell`), and that signal hands over
  the memory the copies land in.

  Every cell has one round. The duties of a cell are named by the device that discharges them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The rounds library's ghost state of the kernel's own cells, duties named by devices. -/
abbrev UB : Type := URounds (GSem nD τ sig) (Dev nD)
/-- With the pipeline library's and the local copies' counters beside it. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The tree -/

/-- The device whose remote copies land in device `d`'s memory. -/
def source (d : Dev nD) : Dev nD := ![1, 0, 3, 0, 0, 4, 7, 4] d
/-- The devices device `d` passes the result's blocks on to, in program order. -/
def kids (d : Dev nD) : List (Dev nD) := ![[4, 3, 1], [], [], [2], [7, 5], [], [], [6]] d

/-! ## Memrefs and cells -/

abbrev xM : Memref sig .tc .vmem S1x2048x1024 .bf16 := Memref.whole cc0_stg0_0
abbrev oM : Memref sig .tc .vmem S1x2048x1024 .bf16 := Memref.whole cc0_stg3_0
abbrev eM : Memref sig .tc .vmem S2x256x1024 .bf16 := Memref.whole cc0_scratch4

theorem blk_inb (n : Fin 8) (i : Fin 3) : (![0, 256 * n.val, 0] : Fin 3 → ℕ) i + S1x256x1024.size i ≤ S1x2048x1024.size i := by
  have := n.isLt; fin_cases i <;> simp [Shape.size, S1x256x1024, S1x2048x1024] <;> omega

/-- Rows `256 n … 256 n + 255` of the result. -/
abbrev blkR (n : Fin 8) : Rect S1x2048x1024 := Rect.unit (s := S1x2048x1024) ![0, 256 * n.val, 0] S1x256x1024.size (blk_inb n)
/-- The memref of block `n` of the staged result, as the remote copies name it. -/
abbrev blk (n : Fin 8) : Memref sig .tc .vmem S256x1024 .bf16 :=
  (oM.slice (blkR n) (fun _ => rfl)).squeeze S256x1024 squeezes_S1x256x1024_S256x1024

/-- The runtime's barrier semaphore. -/
abbrev barS : Sem sig := (SemArray.scalar (sig.barrier 0 rfl) : Sems sig S_).sem
/-- The semaphores of the edge rows' copy, at the sender and at the receiver. -/
abbrev esS : DmaSem sig := cc0_scratch6.sem
abbrev erS : DmaSem sig := cc0_scratch7.sem
/-- The semaphore of block `n`'s copy to child `j`, at the sender. -/
def sS (n : Fin 8) (j : Fin 3) : DmaSem sig := ⟨8 + 3 * n.val + j.val, by have := n.isLt; have := j.isLt; show _ < 40; omega⟩
/-- The semaphore of block `n`'s arrival. -/
def rS (n : Fin 8) : DmaSem sig := ⟨32 + n.val, by have := n.isLt; show _ < 40; omega⟩

abbrev barCell (d : Dev nD) : GSem nD τ sig := ((d : Thread nD τ), .reg barS)
abbrev esCell (d : Dev nD) : GSem nD τ sig := ((d : Thread nD τ), .dma esS)
abbrev erCell (d : Dev nD) : GSem nD τ sig := ((d : Thread nD τ), .dma erS)
abbrev sCell (d : Dev nD) (n : Fin 8) (j : Fin 3) : GSem nD τ sig := ((d : Thread nD τ), .dma (sS n j))
abbrev rCell (d : Dev nD) (n : Fin 8) : GSem nD τ sig := ((d : Thread nD τ), .dma (rS n))

/-- The credit of one block's copy and of the edge rows' copy. -/
abbrev N : ℕ := (blk 0).view.dmaCredit
abbrev NE : ℕ := eM.view.dmaCredit
theorem N_pos : 0 < N := View.dmaCredit_pos _ (by decide)
theorem NE_pos : 0 < NE := View.dmaCredit_pos _ (by decide)

/-! ## The schedule -/

/-- The share of a block lent to its copy to child `j`, of a device with `l` children. -/
def shr : ℕ → Fin 3 → PosShare TreeShare
  | 3, 0 => fullShare.left
  | 3, 1 => fullShare.right.left
  | 3, 2 => fullShare.right.right
  | 2, 0 => fullShare.left
  | 2, 1 => fullShare.right
  | _, _ => fullShare

-- The result's staging buffer and the edge rows' buffer, as every device ends with them.
variable (ob : (cc0_stg3_0 : Ref sig .tc).ty.Contents (Elt F)) (eb : (cc0_scratch4 : Ref sig .tc).ty.Contents (Elt F))

/-- The memory device `d` hands the device that sends to it. -/
def lend (d : Dev nD) : sProp 𝕄 :=
  if d = 0 then iprop(∃ f, eM.view.loc (d : Thread nD τ) ↦[eM.view.set]{fullShare} f)
  else iprop(∃ f, oM.view.loc (d : Thread nD τ) ↦[oM.view.set]{fullShare} f)

/-- Block `n` arrived in device `d`'s staging buffer. -/
def landed (d : Dev nD) (n : Fin 8) : sProp 𝕄 :=
  iprop(∃ f, (blk n).view.loc (d : Thread nD τ) ↦[(blk n).view.set]{fullShare} (blk n).view.write (Elt F) f ((blk n).view.read (Elt F) ob) Finset.univ)

/-- Block `n` of device `d`'s staging buffer, at a share. -/
def held (q : PosShare TreeShare) (d : Dev nD) (n : Fin 8) : sProp 𝕄 :=
  (blk n).view.loc (d : Thread nD τ) ↦[(blk n).view.set]{q} ob

/-- The edge rows arrived. -/
def eLanded (d : Dev nD) : sProp 𝕄 :=
  iprop(∃ f, eM.view.loc (d : Thread nD τ) ↦[eM.view.set]{fullShare} eM.view.write (Elt F) f (eM.view.read (Elt F) eb) Finset.univ)
/-- The edge rows' buffer back at its sender. -/
def eBack (d : Dev nD) : sProp 𝕄 := iprop(∃ f, eM.view.loc (d : Thread nD τ) ↦[eM.view.set]{fullShare} f)

instance lend_storable (d : Dev nD) : BI.Storable (upEmb : UEmb _ 𝕄) (lend (F := F) d) := by
  unfold lend; split <;> infer_instance
instance landed_storable (d : Dev nD) (n : Fin 8) : BI.Storable (upEmb : UEmb _ 𝕄) (landed ob d n) := by unfold landed; infer_instance
instance held_storable (q : PosShare TreeShare) (d : Dev nD) (n : Fin 8) : BI.Storable (upEmb : UEmb _ 𝕄) (held ob q d n) := by unfold held; infer_instance
instance eLanded_storable (d : Dev nD) : BI.Storable (upEmb : UEmb _ 𝕄) (eLanded eb d) := by unfold eLanded; infer_instance
instance eBack_storable (d : Dev nD) : BI.Storable (upEmb : UEmb _ 𝕄) (eBack (F := F) d) := by unfold eBack; infer_instance

/-- The duties of device `d`'s semaphores. -/
def dut (d : Dev nD) : SemLoc sig → Finset (Dev nD)
  | .reg _ => Finset.univ.filter fun k => source k = d
  | .dma q =>
    if 32 ≤ q.val then (if d = 0 then ∅ else {source d})
    else if 8 ≤ q.val then (if (q.val - 8) % 3 < (kids d).length then {d} else ∅)
    else if q.val = 7 then (if d = 0 then {1} else ∅)
    else if q.val = 6 then (if d = 1 then {1} else ∅)
    else ∅

/-- What a duty of device `d`'s semaphore hands to `d`. -/
def pay (d : Dev nD) : SemLoc sig → Dev nD → sProp 𝕄
  | .reg _, k => lend k
  | .dma q, _ =>
    if 32 ≤ q.val then landed ob d (Fin.ofNat 8 (q.val - 32))
    else if 8 ≤ q.val then held ob (shr (kids d).length (Fin.ofNat 3 ((q.val - 8) % 3))) d (Fin.ofNat 8 ((q.val - 8) / 3))
    else if q.val = 7 then eLanded eb d
    else if q.val = 6 then eBack d
    else iprop(emp)

/-- The units of one duty. -/
def amt : SemLoc sig → ℕ
  | .reg _ => 1
  | .dma q => if 8 ≤ q.val then N else NE

theorem amt_pos (s : SemLoc sig) : 0 < amt s := by
  cases s with
  | reg _ => exact Nat.one_pos
  | dma q =>
    show 0 < if 8 ≤ q.val then N else NE
    split
    · exact N_pos
    · exact NE_pos

/-- The schedule: round 0 only. -/
def Rd : Rounds.Schedule (GSem nD τ sig) (Dev nD) 𝕄 where
  duties g r := if r = 0 ∧ g.1.2 = .tc then dut g.1.1 g.2 else ∅
  unitless _ := False
  amount g _ _ := amt g.2
  payload g _ k := pay ob eb g.1.1 g.2 k
  amount_pos g _ _ _ := amt_pos _

instance Rd_payload_storable (g : GSem nD τ sig) (r : ℕ) (k : Dev nD) : BI.Storable (upEmb : UEmb _ 𝕄) ((Rd ob eb).payload g r k) := by
  show BI.Storable upEmb (pay ob eb g.1.1 g.2 k)
  cases h : g.2 with
  | reg _ => unfold pay; infer_instance
  | dma q => unfold pay; dsimp only; (repeat' split) <;> infer_instance

/-! ### Its tables -/

theorem duties_tc (d : Dev nD) (s : SemLoc sig) : (Rd ob eb).duties ((d : Thread nD τ), s) 0 = dut d s := by
  dsimp only [Rd]; exact if_pos ⟨rfl, rfl⟩
theorem duties_later (g : GSem nD τ sig) : ∀ r, 1 ≤ r → (Rd ob eb).duties g r = ∅ :=
  fun r hr => by dsimp only [Rd]; exact if_neg fun h => by omega
theorem amount_eq (g : GSem nD τ sig) (r : ℕ) (k : Dev nD) : (Rd ob eb).amount g r k = amt g.2 := rfl
theorem expect_eq (d : Dev nD) (s : SemLoc sig) : (Rd ob eb).expect ((d : Thread nD τ), s) 0 = (dut d s).card * amt s := by
  unfold Schedule.expect Schedule.amountOf
  rw [duties_tc, Finset.sum_congr rfl fun k _ => amount_eq ob eb _ 0 k, Finset.sum_const, smul_eq_mul]

theorem dut_bar (d : Dev nD) : dut d (.reg barS) = ![{1, 3, 4}, {0}, ∅, {2}, {5, 7}, ∅, ∅, {6}] d := by revert d; decide
theorem dut_r (d : Dev nD) (n : Fin 8) (h : d ≠ 0) : dut d (.dma (rS n)) = {source d} := by revert d n; decide
theorem dut_s (d : Dev nD) (n : Fin 8) (j : Fin 3) (h : j.val < (kids d).length) : dut d (.dma (sS n j)) = {d} := by revert d n j; decide
theorem dut_er : dut 0 (.dma erS) = {1} := by decide
theorem dut_es : dut 1 (.dma esS) = {1} := by decide

theorem amt_r (n : Fin 8) : amt (.dma (rS n)) = N := if_pos (by show 8 ≤ 32 + n.val; omega)
theorem amt_s (n : Fin 8) (j : Fin 3) : amt (.dma (sS n j)) = N := if_pos (by show 8 ≤ 8 + 3 * n.val + j.val; omega)
theorem amt_er : amt (.dma erS) = NE := by unfold amt; exact if_neg (by decide)
theorem amt_es : amt (.dma esS) = NE := by unfold amt; exact if_neg (by decide)
theorem amt_bar (s : Sem sig) : amt (.reg s) = 1 := rfl

theorem payload_bar (d : Dev nD) (r : ℕ) (k : Dev nD) : (Rd ob eb).payload (barCell d) r k = lend k := rfl
theorem payload_r (d : Dev nD) (n : Fin 8) (r : ℕ) (k : Dev nD) : (Rd ob eb).payload (rCell d n) r k =
      iprop(∃ f, (blk n).view.loc (d : Thread nD τ) ↦[(blk n).view.set]{fullShare} (blk n).view.write (Elt F) f ((blk n).view.read (Elt F) ob) Finset.univ) := by
  refine (if_pos (show 32 ≤ 32 + n.val by omega)).trans ?_
  have e : Fin.ofNat 8 ((rS n).val - 32) = n := Fin.ext (by show (32 + n.val - 32) % 8 = n.val; omega)
  rw [e]; rfl
theorem payload_s (d : Dev nD) (n : Fin 8) (j : Fin 3) (r : ℕ) (k : Dev nD) :
    (Rd ob eb).payload (sCell d n j) r k = (blk n).view.loc (d : Thread nD τ) ↦[(blk n).view.set]{shr (kids d).length j} ob := by
  have h : (sS n j).val = 8 + 3 * n.val + j.val := rfl
  refine (if_neg (show ¬ 32 ≤ (sS n j).val by omega)).trans ((if_pos (show 8 ≤ (sS n j).val by omega)).trans ?_)
  have h1 : Fin.ofNat 8 (((sS n j).val - 8) / 3) = n := Fin.ext (by show (((sS n j).val - 8) / 3) % 8 = n.val; omega)
  have h2 : Fin.ofNat 3 (((sS n j).val - 8) % 3) = j := Fin.ext (by show (((sS n j).val - 8) % 3) % 3 = j.val; omega)
  rw [h1, h2]; rfl
theorem payload_er (d : Dev nD) (r : ℕ) (k : Dev nD) : (Rd ob eb).payload (erCell d) r k =
      iprop(∃ f, eM.view.loc (d : Thread nD τ) ↦[eM.view.set]{fullShare} eM.view.write (Elt F) f (eM.view.read (Elt F) eb) Finset.univ) := rfl
theorem payload_es (d : Dev nD) (r : ℕ) (k : Dev nD) : (Rd ob eb).payload (esCell d) r k =
      iprop(∃ f, eM.view.loc (d : Thread nD τ) ↦[eM.view.set]{fullShare} f) := rfl

/-! ## Levels -/

/-- The distance of a device from device 0 in the tree. -/
def depth (d : Dev nD) : ℕ := ![0, 1, 2, 1, 1, 2, 3, 2] d

def lvS (d : Dev nD) : SemLoc sig → ℕ
  | .reg _ => 1
  | .dma q => if 32 ≤ q.val then 3 + depth d else if q.val = 7 then 2 else 0

def L (g : GSem nD τ sig) : Finset Unit := if g.1.2 = .tc then {()} else ∅
/-- A wait's cell lies below every cell its device still owes. -/
def lv (g : GSem nD τ sig) (_ : Unit) : ℕ := lvS g.1.1 g.2

theorem L_of_ne (g : GSem nD τ sig) (h : g.1.2 ≠ .tc) : L g = ∅ := if_neg h
theorem L_tc (d : Dev nD) (sm : SemLoc sig) : L ((d : Thread nD τ), sm) = {()} := if_pos rfl

/-! ## What a device owes -/

/-- The units owed to a list of cells, each by one duty; the head is discharged first. -/
def debt : List (Dev nD × SemLoc sig) → CellTallies nD τ sig Unit
  | [] => 0
  | x :: l => debt l + tallyAt ((x.1 : Thread nD τ), x.2) () (amt x.2)

/-- The cells device `d`'s copies of the blocks from `n` on land on. -/
def outs (d : Dev nD) (n : ℕ) : List (Dev nD × SemLoc sig) :=
  (List.range' n (8 - n)).flatMap fun i => (kids d).map fun k => (k, .dma (rS (Fin.ofNat 8 i)))

/-- The cells device `d` owes at launch: the signal, the edge rows, the blocks. -/
def owed (d : Dev nD) : List (Dev nD × SemLoc sig) :=
  (source d, .reg barS) :: ((if d = 1 then [(0, .dma erS)] else []) ++ outs d 0)

def O₀ (d : Dev nD) : CellTallies nD τ sig Unit := debt (owed d)

theorem debt_pos {l : List (Dev nD × SemLoc sig)} {g : GSem nD τ sig} {u : Unit} (h : 0 < debt l g u) :
    ∃ x ∈ l, g = ((x.1 : Thread nD τ), x.2) := by
  induction l with
  | nil => exact absurd h (Nat.lt_irrefl 0)
  | cons x l ih =>
    unfold debt at h
    rw [Pi.add_apply, Finsupp.add_apply, tallyAt_apply] at h
    by_cases hg : g = ((x.1 : Thread nD τ), x.2) ∧ u = ()
    · exact ⟨x, List.mem_cons_self, hg.1⟩
    · rw [if_neg hg, Nat.add_zero] at h
      obtain ⟨y, hy, e⟩ := ih h
      exact ⟨y, List.mem_cons_of_mem _ hy, e⟩

/-- A wait on device `d`'s cell `s` while `d` owes cells of higher levels only. -/
theorem mayWait_debt (d : Dev nD) (s : SemLoc sig) (l : List (Dev nD × SemLoc sig)) (h : ∀ x ∈ l, lvS d s < lvS x.1 x.2) :
    (levAts L lv : sProp 𝕄) ⊢ MayWait (d : Thread nD τ) s () (debt l) :=
  MayOwe.of_cut (L := L) (lev := lv) (lvS d s) (fun p hp => by rw [Finset.mem_singleton.mp hp, L_tc]; exact Finset.mem_singleton_self _)
    (fun g u hg => by obtain ⟨x, -, rfl⟩ := debt_pos hg; rw [L_tc]; exact Finset.mem_singleton_self _)
    (fun p hp => by rw [Finset.mem_singleton.mp hp]; exact le_refl _)
    (fun g u hg => by obtain ⟨x, hx, rfl⟩ := debt_pos hg; exact h x hx)

theorem kids_depth (d k : Dev nD) (h : k ∈ kids d) : depth k = depth d + 1 := by revert d k; decide

theorem outs_lv {d : Dev nD} {n : ℕ} {x : Dev nD × SemLoc sig} (h : x ∈ outs d n) : lvS x.1 x.2 = 4 + depth d := by
  obtain ⟨i, -, hx⟩ := List.mem_flatMap.mp h
  obtain ⟨k, hk, rfl⟩ := List.mem_map.mp hx
  have e : lvS k (.dma (rS (Fin.ofNat 8 i))) = 3 + depth k := if_pos (by show 32 ≤ 32 + (Fin.ofNat 8 i).val; omega)
  rw [e, kids_depth d k hk]; omega

theorem lv_le (d : Dev nD) (s : SemLoc sig) : lvS d s < 4 + depth d := by
  cases s with
  | reg _ => show 1 < _; omega
  | dma q => unfold lvS; dsimp only; split <;> [omega; (split <;> omega)]

/-- A device that owes blocks only may wait for any of its cells. -/
theorem mayWait_outs (d : Dev nD) (s : SemLoc sig) (n : ℕ) (ι : Unit) :
    (levAts L lv : sProp 𝕄) ⊢ MayWait (d : Thread nD τ) s ι (debt (outs d n)) :=
  mayWait_debt d s (outs d n) fun x hx => by rw [outs_lv hx]; exact lv_le d s

/-- So it may wait for all of them. -/
theorem mayWaits_outs (d : Dev nD) (n : ℕ) (ι : Unit) :
    (levAts L lv : sProp 𝕄) ⊢ Transfers.MayWaits (d : Thread nD τ) ι (debt (outs d n)) :=
  Transfers.MayWaits.intro fun s => mayWait_outs d s n ι

end Cert.Tree

end
-- ==== Proof.Chunk.lean ====
/-
  What the kernel leaves in its buffers, as functions of the inputs it reads.
-/
module

public import proofs.«01_k».proof.Proof.Sched
public import Idealize.ShloMosaic.Lib.ValueIdx

@[expose] public section

noncomputable section

namespace Cert.Tree

open Cert.KernelIdeal Cert.KernelIdeal.Gen
open Idealize.ShloMosaic
open Idealize.ShloMosaic.TcCoe
open Idealize.ShloMosaic.ValueIdx

variable {F : FTy → Type} [FloatOps F] [Named F]

/-! ## One block of rows -/

/-- One head's context rows, of the queries, the keys and the values at column `o`. -/
def headOf (neg : FVec F S256x512 .f32) (q : FVec F S256x1024 .bf16) (kb vb : Vec F S512x1024 .bf16) (o : ℕ)
    (h1 : S256x1024.Slices ![0, o] S256x128) (h2 : S512x1024.Slices ![0, o] S512x128) : FVec F S256x128 .bf16 :=
  let e : FVec F S256x512 .f32 := exp (addf (matmul dot_S256x128_S512x128_S256x512_1_1_0_0_n_n none (extractStridedSlice S256x128 ![0, o] q h1)
    (extractStridedSlice S512x128 ![0, o] kb h2) (constant S256x512 .f32 0x00000000#32)) neg)
  let w : FVec F S256x1 .f32 := divf (broadcast S256x1 (Scalar.ofBits .f32 0x3F800000#32))
    (shapeCast S256x1 (multiReduction .add [1] S256 e 0x00000000#32 reduces_S256x512_S256 (.inl rfl) rfl) shapeCasts_S256_S256x1)
  truncf .bf16 (mulf (matmul dot_S256x512_S512x128_S256x128_1_0_0_1_n_n none (truncf .bf16 e bitsLt_bf16_f32)
    (extractStridedSlice S512x128 ![0, o] vb h2) (constant S256x128 .f32 0x00000000#32)) (broadcastTo S256x128 w broadcasts_S256x1_S256x128)) bitsLt_bf16_f32

/-- The scaled queries of a block of rows. -/
def qOf (wq : FVec F S1024x1024 .bf16) (xc : Vec F S1x256x1024 .bf16) : FVec F S256x1024 .bf16 :=
  truncf .bf16 (mulf (matmul dot_S256x1024_S1024x1024_S256x1024_1_0_0_1_n_n none (shapeCast S256x1024 xc shapeCasts_S1x256x1024_S256x1024) wq
    (constant S256x1024 .f32 0x00000000#32)) (broadcast S256x1024 (Scalar.ofBits .f32 0x3DB504F3#32))) bitsLt_bf16_f32

/-- The heads' context rows side by side. -/
def ctxOf (neg : FVec F S256x512 .f32) (q : FVec F S256x1024 .bf16) (kb vb : Vec F S512x1024 .bf16) : FVec F S256x1024 .bf16 :=
  concatenate S256x1024 1 [⟨S256x128, headOf neg q kb vb 0 slices_S256x1024_o0_0_S256x128 slices_S512x1024_o0_0_S512x128⟩, ⟨S256x128, headOf neg q kb vb 128 slices_S256x1024_o0_128_S256x128 slices_S512x1024_o0_128_S512x128⟩, ⟨S256x128, headOf neg q kb vb 256 slices_S256x1024_o0_256_S256x128 slices_S512x1024_o0_256_S512x128⟩, ⟨S256x128, headOf neg q kb vb 384 slices_S256x1024_o0_384_S256x128 slices_S512x1024_o0_384_S512x128⟩, ⟨S256x128, headOf neg q kb vb 512 slices_S256x1024_o0_512_S256x128 slices_S512x1024_o0_512_S512x128⟩, ⟨S256x128, headOf neg q kb vb 640 slices_S256x1024_o0_640_S256x128 slices_S512x1024_o0_640_S512x128⟩, ⟨S256x128, headOf neg q kb vb 768 slices_S256x1024_o0_768_S256x128 slices_S512x1024_o0_768_S512x128⟩, ⟨S256x128, headOf neg q kb vb 896 slices_S256x1024_o0_896_S256x128 slices_S512x1024_o0_896_S512x128⟩]
    concatenates_S256x128_S256x128_S256x128_S256x128_S256x128_S256x128_S256x128_S256x128_S256x1024_d1

/-- One block of 256 rows of the result. -/
def chunkOf (neg : FVec F S256x512 .f32) (wq wo : FVec F S1024x1024 .bf16) (xc : Vec F S1x256x1024 .bf16) (kb vb : Vec F S512x1024 .bf16) :
    Vec F S1x256x1024 .bf16 :=
  shapeCast S1x256x1024 (truncf .bf16 (matmul dot_S256x1024_S1024x1024_S256x1024_1_0_0_1_n_n none (ctxOf neg (qOf wq xc) kb vb) wo
    (constant S256x1024 .f32 0x00000000#32)) bitsLt_bf16_f32) shapeCasts_S256x1024_S1x256x1024

/-! ## The buffers -/

abbrev wqM : Memref sig .tc .vmem S1024x1024 .bf16 := Memref.whole cc0_stg1_0
abbrev woM : Memref sig .tc .vmem S1024x1024 .bf16 := Memref.whole cc0_stg2_0
abbrev kM : Memref sig .tc .hbm S1x2048x8x128 .f32 := Memref.whole main_arg2
abbrev vM : Memref sig .tc .hbm S1x2048x8x128 .f32 := Memref.whole main_arg3
abbrev kbM : Memref sig .tc .vmem S2304x1024 .bf16 := Memref.whole cc0_scratch0
abbrev vbM : Memref sig .tc .vmem S2304x1024 .bf16 := Memref.whole cc0_scratch1
abbrev stM : Memref sig .tc .vmem S2x2048x8x128 .f32 := Memref.whole cc0_scratch2
abbrev esM : Memref sig .tc .vmem S2x256x8x128 .f32 := Memref.whole cc0_scratch3

/-- The whole of a device's keys or values, and their first 256 rows. -/
abbrev allR : Rect S1x2048x8x128 := Rect.unit (s := S1x2048x8x128) ![0, 0, 0, 0] S1x2048x8x128.size inb_S1x2048x8x128_S1x2048x8x128_0_0_0_0
abbrev topR : Rect S1x2048x8x128 := Rect.unit (s := S1x2048x8x128) ![0, 0, 0, 0] S1x256x8x128.size inb_S1x2048x8x128_S1x256x8x128_0_0_0_0
/-- The two rows of tiles of the edge buffer. -/
abbrev edgeR0 : Rect S2x256x1024 := Rect.unit (s := S2x256x1024) ![0, 0, 0] S1x256x1024.size inb_S2x256x1024_S1x256x1024_0_0_0
abbrev edgeR1 : Rect S2x256x1024 := Rect.unit (s := S2x256x1024) ![1, 0, 0] S1x256x1024.size inb_S2x256x1024_S1x256x1024_1_0_0
/-- The device's own rows of the packed keys or values, and the edge rows. -/
abbrev mainR : Rect S2304x1024 := Rect.unit (s := S2304x1024) ![0, 0] S2048x1024.size inb_S2304x1024_S2048x1024_0_0
abbrev tailR : Rect S2304x1024 := Rect.unit (s := S2304x1024) ![2048, 0] S256x1024.size inb_S2304x1024_S256x1024_2048_0

/-- An edge buffer of two given halves. -/
def edgeOf (a b : Vec F S1x256x1024 .bf16) : (cc0_scratch4 : Ref sig .tc).ty.Contents (Elt F) :=
  fun i => if (i 0).val = 0 then a (ix3 0 (i 1) (i 2)) else b (ix3 0 (i 1) (i 2))

/-- A packed buffer of the device's rows and the edge rows. -/
def rowsOf (a : Vec F S2048x1024 .bf16) (b : Vec F S256x1024 .bf16) (i : S2304x1024.Idx) : Elt F .bf16 :=
  if h : (i 0).val < 2048 then a (ix2 ⟨(i 0).val, h⟩ (i 1)) else b (ix2 ⟨(i 0).val - 2048, by have := (i 0).isLt; change (i 0).val < 2304 at this; omega⟩ (i 1))

/-- A result of eight given blocks. -/
def blocksOf (a : Fin 8 → Vec F S1x256x1024 .bf16) : (cc0_stg3_0 : Ref sig .tc).ty.Contents (Elt F) :=
  fun i => a ⟨(i 1).val / 256, by have := (i 1).isLt; change (i 1).val < 2048 at this; omega⟩ (ix3 0 ⟨(i 1).val % 256, Nat.mod_lt _ (by decide)⟩ (i 2))

theorem edgeOf_0 (a b : Vec F S1x256x1024 .bf16) : View.readAt (Elt F) eM.view edgeR0.toLoadRect (edgeOf a b) = a := by
  funext x
  have h0 : (x 0).val = 0 := Nat.lt_one_iff.mp (x 0).isLt
  refine (if_pos (show 0 + 1 * (x 0).val = 0 by omega)).trans (congrArg a ?_)
  funext i; fin_cases i <;> refine Fin.ext ?_
  · exact h0.symm
  · show 0 + 1 * (x 1).val = (x 1).val; omega
  · show 0 + 1 * (x 2).val = (x 2).val; omega

theorem edgeOf_1 (a b : Vec F S1x256x1024 .bf16) : View.readAt (Elt F) eM.view edgeR1.toLoadRect (edgeOf a b) = b := by
  funext x
  have h0 : (x 0).val = 0 := Nat.lt_one_iff.mp (x 0).isLt
  refine (if_neg (show ¬ 1 + 1 * (x 0).val = 0 by omega)).trans (congrArg b ?_)
  funext i; fin_cases i <;> refine Fin.ext ?_
  · exact h0.symm
  · show 0 + 1 * (x 1).val = (x 1).val; omega
  · show 0 + 1 * (x 2).val = (x 2).val; omega

theorem rowsOf_main (a : Vec F S2048x1024 .bf16) (b : Vec F S256x1024 .bf16) (x : S2048x1024.Idx) :
    rowsOf a b (mainR.toLoadRect.idx x) = a x := by
  have h0 := (x 0).isLt
  change (x 0).val < 2048 at h0
  refine (dif_pos (show 0 + 1 * (x 0).val < 2048 by omega)).trans (congrArg a ?_)
  funext i; fin_cases i <;> refine Fin.ext ?_
  · show 0 + 1 * (x 0).val = (x 0).val; omega
  · show 0 + 1 * (x 1).val = (x 1).val; omega

theorem rowsOf_tail (a : Vec F S2048x1024 .bf16) (b : Vec F S256x1024 .bf16) (x : S256x1024.Idx) :
    rowsOf a b (tailR.toLoadRect.idx x) = b x := by
  refine (dif_neg (show ¬ 2048 + 1 * (x 0).val < 2048 by omega)).trans (congrArg b ?_)
  funext i; fin_cases i <;> refine Fin.ext ?_
  · show 2048 + 1 * (x 0).val - 2048 = (x 0).val; omega
  · show 0 + 1 * (x 1).val = (x 1).val; omega

theorem blocksOf_blk (a : Fin 8 → Vec F S1x256x1024 .bf16) (n : Fin 8) : View.readAt (Elt F) oM.view (blkR n).toLoadRect (blocksOf a) = a n := by
  funext x
  have h0 : (x 0).val = 0 := Nat.lt_one_iff.mp (x 0).isLt
  have h1 := (x 1).isLt
  change (x 1).val < 256 at h1
  have e : (⟨(256 * n.val + 1 * (x 1).val) / 256, by have := n.isLt; omega⟩ : Fin 8) = n := Fin.ext (by dsimp only; omega)
  refine (congrFun (congrArg a e) _).trans (congrArg (a n) ?_)
  funext i; fin_cases i <;> refine Fin.ext ?_
  · exact h0.symm
  · show (256 * n.val + 1 * (x 1).val) % 256 = (x 1).val; omega
  · show 0 + 1 * (x 2).val = (x 2).val; omega

section
variable {sig : RefSig} {κ : Kind} {sp sp' : Space} {s : Shape} {e : EltTy} {Val : EltTy → Type}

/-- A store on a rectangle leaves there what any contents with the same load hold. -/
theorem writes_agree (v : View sig κ sp s e) (f X : v.ty.Contents Val) (r : Rect s) (w : r.shape.Idx → Val e)
    (h : v.readAt Val r.toLoadRect X = w) : ∀ i ∈ v.setOn r.set, v.writes Val f [⟨r, w⟩] i = X i := by
  intro i hi
  obtain ⟨y, hy, rfl⟩ := Finset.mem_map.mp hi
  obtain ⟨x, rfl⟩ := r.exists_idx_of_mem hy
  have h1 := View.read_writes_cons_emb v f r w [] x
  rw [← h] at h1 ⊢
  exact cast_inj _ |>.mp h1

/-- A copy from one array to another of its shape, read back as the source array. -/
theorem reshape_copy (v : View sig κ sp s e) (v' : View sig κ sp' s e) (t : Shape) (h h' : t.numel = s.numel)
    (f : v.ty.Contents Val) (g : v'.ty.Contents Val) :
    v.read Val ((View.reshape v t h).write Val f ((View.reshape v' t h').read Val g) Finset.univ) = v'.read Val g := by
  funext x
  have h1 : v.read Val ((View.reshape v t h).write Val f ((View.reshape v' t h').read Val g) Finset.univ)
        (Shape.reshapeEquiv h ((Shape.reshapeEquiv h).symm x)) = v'.read Val g (Shape.reshapeEquiv h ((Shape.reshapeEquiv h).symm x)) :=
    congrFun (View.read_write_univ (v := View.reshape v t h) f ((View.reshape v' t h').read Val g)) ((Shape.reshapeEquiv h).symm x)
  rwa [Equiv.apply_symm_apply] at h1
end

/-! ## What the run leaves -/

/-- The keys and values of a device, in the form the kernel packs them. -/
def kOf (kk : (main_arg2 : Ref sig .tc).ty.Contents (Elt F)) : Vec F S2048x1024 .bf16 :=
  k0_pay2 (k0_pay1 (View.readAt (Elt F) kM.view allR.toLoadRect kk))
def vOf (vv : (main_arg3 : Ref sig .tc).ty.Contents (Elt F)) : Vec F S2048x1024 .bf16 :=
  k0_pay3 (View.readAt (Elt F) vM.view allR.toLoadRect vv)

/-- The edge rows, from the keys and values of device 1. -/
def ebOf (kk : (main_arg2 : Ref sig .tc).ty.Contents (Elt F)) (vv : (main_arg3 : Ref sig .tc).ty.Contents (Elt F)) :
    (cc0_scratch4 : Ref sig .tc).ty.Contents (Elt F) :=
  edgeOf (k0_pay116 (View.readAt (Elt F) kM.view topR.toLoadRect kk)) (k0_pay117 (View.readAt (Elt F) vM.view topR.toLoadRect vv))

/-- The packed keys and values of device 0. -/
def kbOf (kk : (main_arg2 : Ref sig .tc).ty.Contents (Elt F)) (eb : (cc0_scratch4 : Ref sig .tc).ty.Contents (Elt F)) :
    (cc0_scratch0 : Ref sig .tc).ty.Contents (Elt F) :=
  rowsOf (kOf kk) (k0_pay102 (View.readAt (Elt F) eM.view edgeR0.toLoadRect eb))
def vbOf (vv : (main_arg3 : Ref sig .tc).ty.Contents (Elt F)) (eb : (cc0_scratch4 : Ref sig .tc).ty.Contents (Elt F)) :
    (cc0_scratch1 : Ref sig .tc).ty.Contents (Elt F) :=
  rowsOf (vOf vv) (k0_pay103 (View.readAt (Elt F) eM.view edgeR1.toLoadRect eb))

theorem band_inb (n : Fin 8) (i : Fin 2) : (![256 * n.val - 128, 0] : Fin 2 → ℕ) i + S512x1024.size i ≤ S2304x1024.size i := by
  have := n.isLt; fin_cases i <;> simp [Shape.size, S512x1024, S2304x1024] <;> omega

/-- The 512 key rows that block `n` reads. -/
abbrev bandR (n : Fin 8) : Rect S2304x1024 := Rect.unit (s := S2304x1024) ![256 * n.val - 128, 0] S512x1024.size (band_inb n)

/-- Block `n` of the result. -/
def blkVal (x : (cc0_stg0_0 : Ref sig .tc).ty.Contents (Elt F)) (wq : (cc0_stg1_0 : Ref sig .tc).ty.Contents (Elt F))
    (wo : (cc0_stg2_0 : Ref sig .tc).ty.Contents (Elt F)) (kb : (cc0_scratch0 : Ref sig .tc).ty.Contents (Elt F))
    (vb : (cc0_scratch1 : Ref sig .tc).ty.Contents (Elt F)) (n : Fin 8) : Vec F S1x256x1024 .bf16 :=
  chunkOf (if n.val = 0 then k0_pay8 k0_pay7 else k0_pay6)
    (k0_pay4 (View.readAt (Elt F) wqM.view (Rect.unit (s := S1024x1024) ![0, 0] S1024x1024.size inb_S1024x1024_S1024x1024_0_0).toLoadRect wq))
    (k0_pay5 (View.readAt (Elt F) woM.view (Rect.unit (s := S1024x1024) ![0, 0] S1024x1024.size inb_S1024x1024_S1024x1024_0_0).toLoadRect wo))
    (View.readAt (Elt F) xM.view (blkR n).toLoadRect x)
    (View.readAt (Elt F) kbM.view (bandR n).toLoadRect kb) (View.readAt (Elt F) vbM.view (bandR n).toLoadRect vb)

end Cert.Tree
end
-- ==== Proof.Mem.lean ====
/-
  The kernel's buffers cut into the pieces its copies and stores name, and put together again.
-/
module

public import proofs.«01_k».proof.Proof.Chunk

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

variable {sp : Space} {s : Shape} {e : EltTy}

/-- A memref's memory, whole and on one rectangle. -/
abbrev pc (c : Dev nD) (m : Memref sig .tc sp s e) (X : Buf (Elt F) (m.view.loc (c : Thread nD τ))) : sProp 𝕄 :=
  iprop(m.view.loc (c : Thread nD τ) ↦[m.view.set]{fullShare} X)
abbrev pcs (c : Dev nD) (m : Memref sig .tc sp s e) (R : Rect s) (X : Buf (Elt F) (m.view.loc (c : Thread nD τ))) : sProp 𝕄 :=
  iprop(m.view.loc (c : Thread nD τ) ↦[m.view.setOn R.set]{fullShare} X)

/-- A memref in two rectangles. -/
theorem pc_two (c : Dev nD) (m : Memref sig .tc sp s e) (R R' : Rect s) (X : Buf (Elt F) (m.view.loc (c : Thread nD τ)))
    (hd : Disjoint R.set R'.set) (hu : R.set ∪ R'.set = Finset.univ) : (pc c m X : sProp 𝕄) ⊣⊢ iprop(pcs c m R X ∗ pcs c m R' X) := by
  have e : m.view.set = m.view.setOn R.set ∪ m.view.setOn R'.set := by
    rw [← View.setOn_univ, ← hu]; exact Finset.map_union _ _
  unfold pc pcs
  rw [e]
  exact pointsTo_union ((Finset.disjoint_map _).mpr hd)

theorem mem_main (i : S2304x1024.Idx) : i ∈ mainR.set ↔ (i 0).val < 2048 := by
  have h1 := (i 1).isLt
  change (i 1).val < 1024 at h1
  rw [Rect.mem_set_unit]
  refine ⟨fun h => ?_, fun h a => ?_⟩
  · have h0 := h 0
    change 0 ≤ (i 0).val ∧ (i 0).val < 0 + 2048 at h0
    omega
  · fin_cases a
    · show 0 ≤ (i 0).val ∧ (i 0).val < 0 + 2048; omega
    · show 0 ≤ (i 1).val ∧ (i 1).val < 0 + 1024; omega
theorem mem_tail (i : S2304x1024.Idx) : i ∈ tailR.set ↔ 2048 ≤ (i 0).val := by
  have h1 := (i 1).isLt
  change (i 1).val < 1024 at h1
  have h2 := (i 0).isLt
  change (i 0).val < 2304 at h2
  rw [Rect.mem_set_unit]
  refine ⟨fun h => ?_, fun h a => ?_⟩
  · have h0 := h 0
    change 2048 ≤ (i 0).val ∧ (i 0).val < 2048 + 256 at h0
    omega
  · fin_cases a
    · show 2048 ≤ (i 0).val ∧ (i 0).val < 2048 + 256; omega
    · show 0 ≤ (i 1).val ∧ (i 1).val < 0 + 1024; omega
theorem rows_disjoint : Disjoint mainR.set tailR.set :=
  Finset.disjoint_left.mpr fun i hi hi' => by have h := (mem_main i).mp hi; have h' := (mem_tail i).mp hi'; omega
theorem rows_all : mainR.set ∪ tailR.set = Finset.univ :=
  Finset.eq_univ_iff_forall.mpr fun i => Finset.mem_union.mpr
    ((lt_or_ge (i 0).val 2048).imp (mem_main i).mpr (mem_tail i).mpr)

/-- The two halves of the staging buffer of the local copies. -/
abbrev stR0 : Rect S2x2048x8x128 := Rect.unit (s := S2x2048x8x128) ![0, 0, 0, 0] S1x2048x8x128.size inb_S2x2048x8x128_S1x2048x8x128_0_0_0_0
abbrev stR1 : Rect S2x2048x8x128 := Rect.unit (s := S2x2048x8x128) ![1, 0, 0, 0] S1x2048x8x128.size inb_S2x2048x8x128_S1x2048x8x128_1_0_0_0
/-- The same of device 1's. -/
abbrev esR0 : Rect S2x256x8x128 := Rect.unit (s := S2x256x8x128) ![0, 0, 0, 0] S1x256x8x128.size inb_S2x256x8x128_S1x256x8x128_0_0_0_0
abbrev esR1 : Rect S2x256x8x128 := Rect.unit (s := S2x256x8x128) ![1, 0, 0, 0] S1x256x8x128.size inb_S2x256x8x128_S1x256x8x128_1_0_0_0

/-- Two halves of a leading axis of two. -/
theorem halves {n a b : ℕ} {h0 h1} (i : (⟨4, ![2, n, a, b]⟩ : Shape).Idx) :
    (i ∈ (Rect.unit (s := ⟨4, ![2, n, a, b]⟩) ![0, 0, 0, 0] ![1, n, a, b] h0).set ↔ (i 0).val = 0)
      ∧ (i ∈ (Rect.unit (s := ⟨4, ![2, n, a, b]⟩) ![1, 0, 0, 0] ![1, n, a, b] h1).set ↔ (i 0).val ≠ 0) := by
  have i0 : (i 0).val < 2 := (i 0).isLt
  have i1 : (i 1).val < n := (i 1).isLt
  have i2 : (i 2).val < a := (i 2).isLt
  have i3 : (i 3).val < b := (i 3).isLt
  constructor <;> rw [Rect.mem_set_unit]
  · refine ⟨fun h => ?_, fun h k => ?_⟩
    · have h0 : 0 ≤ (i 0).val ∧ (i 0).val < 0 + 1 := h 0
      omega
    · fin_cases k
      · show 0 ≤ (i 0).val ∧ (i 0).val < 0 + 1; omega
      · show 0 ≤ (i 1).val ∧ (i 1).val < 0 + n; omega
      · show 0 ≤ (i 2).val ∧ (i 2).val < 0 + a; omega
      · show 0 ≤ (i 3).val ∧ (i 3).val < 0 + b; omega
  · refine ⟨fun h => ?_, fun h k => ?_⟩
    · have h0 : 1 ≤ (i 0).val ∧ (i 0).val < 1 + 1 := h 0
      omega
    · fin_cases k
      · show 1 ≤ (i 0).val ∧ (i 0).val < 1 + 1; omega
      · show 0 ≤ (i 1).val ∧ (i 1).val < 0 + n; omega
      · show 0 ≤ (i 2).val ∧ (i 2).val < 0 + a; omega
      · show 0 ≤ (i 3).val ∧ (i 3).val < 0 + b; omega
theorem halves_disjoint {n a b : ℕ} {h0 h1} : Disjoint (Rect.unit (s := ⟨4, ![2, n, a, b]⟩) ![0, 0, 0, 0] ![1, n, a, b] h0).set
    (Rect.unit (s := ⟨4, ![2, n, a, b]⟩) ![1, 0, 0, 0] ![1, n, a, b] h1).set :=
  Finset.disjoint_left.mpr fun i hi hi' => (halves (h0 := h0) i).2.mp hi' ((halves (h1 := h1) i).1.mp hi)
theorem halves_all {n a b : ℕ} {h0 h1} : (Rect.unit (s := ⟨4, ![2, n, a, b]⟩) ![0, 0, 0, 0] ![1, n, a, b] h0).set
    ∪ (Rect.unit (s := ⟨4, ![2, n, a, b]⟩) ![1, 0, 0, 0] ![1, n, a, b] h1).set = Finset.univ :=
  Finset.eq_univ_iff_forall.mpr fun i => Finset.mem_union.mpr ((eq_or_ne (i 0).val 0).imp (halves (h1 := h1) i).1.mpr (halves (h0 := h0) i).2.mpr)

theorem pcs_congr (c : Dev nD) (m : Memref sig .tc sp s e) (R : Rect s) {X Y : Buf (Elt F) (m.view.loc (c : Thread nD τ))}
    (h : ∀ i ∈ m.view.setOn R.set, X i = Y i) : (pcs c m R X : sProp 𝕄) ⊢ pcs c m R Y :=
  by
  unfold pcs; rw [pointsTo_congr h]

/-- The staged result in its eight blocks. -/
theorem blk_set (n : Fin 8) : (blk n).view.set = oM.view.setOn (blkR n).set :=
  (View.set_reshape (v := (oM.slice (blkR n) (fun _ => rfl)).view) _).trans (View.set_slice _ _)

theorem mem_blk (n : Fin 8) (i : S1x2048x1024.Idx) : i ∈ (blkR n).set ↔ (i 1).val / 256 = n.val := by
  have h0 : (i 0).val = 0 := Nat.lt_one_iff.mp (i 0).isLt
  have h2 := (i 2).isLt
  change (i 2).val < 1024 at h2
  rw [Rect.mem_set_unit]
  refine ⟨fun h => ?_, fun h a => ?_⟩
  · have h1 := h 1
    change 256 * n.val ≤ (i 1).val ∧ (i 1).val < 256 * n.val + 256 at h1
    omega
  · fin_cases a
    · show 0 ≤ (i 0).val ∧ (i 0).val < 0 + 1; omega
    · show 256 * n.val ≤ (i 1).val ∧ (i 1).val < 256 * n.val + 256; omega
    · show 0 ≤ (i 2).val ∧ (i 2).val < 0 + 1024; omega

theorem blk_disjoint (n n' : Fin 8) (h : n ≠ n') : Disjoint (blkR n).set (blkR n').set :=
  Finset.disjoint_left.mpr fun i hi hi' => h (Fin.ext (((mem_blk n i).mp hi).symm.trans ((mem_blk n' i).mp hi')))

theorem out_blocks (c : Dev nD) (q : PosShare TreeShare) (X : (cc0_stg3_0 : Ref sig .tc).ty.Contents (Elt F)) :
    (oM.view.loc (c : Thread nD τ) ↦[oM.view.set]{q} X : sProp 𝕄) = bigSep Finset.univ fun n => held X q c n := by
  have e : oM.view.set = Finset.univ.biUnion fun n => oM.view.setOn (blkR n).set := by
    ext i
    simp only [View.set, View.setOn, Finset.mem_biUnion, Finset.mem_univ, true_and]
    constructor
    · intro h
      obtain ⟨y, -, rfl⟩ := Finset.mem_map.mp h
      have h1 := (y 1).isLt
      change (y 1).val < 2048 at h1
      exact ⟨⟨(y 1).val / 256, by omega⟩, Finset.mem_map_of_mem _ ((mem_blk _ y).mpr rfl)⟩
    · rintro ⟨n, h⟩
      obtain ⟨y, -, rfl⟩ := Finset.mem_map.mp h
      exact Finset.mem_map_of_mem _ (Finset.mem_univ y)
  rw [e]
  refine (pointsTo_biUnion _ _ fun n _ n' _ h => (Finset.disjoint_map _).mpr (blk_disjoint n n' h)).trans ?_
  exact congrArg (bigSep Finset.univ) (funext fun n => by unfold held; rw [blk_set]; rfl)

/-- A family of eight. -/
def eight (Φ : Fin 8 → sProp 𝕄) : sProp 𝕄 := iprop(Φ 0 ∗ Φ 1 ∗ Φ 2 ∗ Φ 3 ∗ Φ 4 ∗ Φ 5 ∗ Φ 6 ∗ Φ 7)

theorem eight_eq (Φ : Fin 8 → sProp 𝕄) : bigSep Finset.univ Φ = eight Φ := by
  rw [bigSep_univ_eq_bigSepL [0, 1, 2, 3, 4, 5, 6, 7] (by decide) (by decide)]; rfl

/-- Block `n` of device `k`'s staging buffer, with any contents. -/
abbrev dst (k : Dev nD) (n : Fin 8) : sProp 𝕄 :=
  iprop(∃ f, (blk n).view.loc (k : Thread nD τ) ↦[(blk n).view.set]{fullShare} f)

/-- The memory a device lends, block by block. -/
theorem lend_blocks (k : Dev nD) (h : k ≠ 0) : (lend (F := F) k : sProp 𝕄) ⊢ eight (dst k) := by
  unfold lend
  rw [if_neg h]
  rw [← eight_eq]
  refine exists_elim fun f => (BIBase.Entails.of_eq (out_blocks k fullShare f)).trans (bigSep_mono fun n _ => ?_)
  show (held f fullShare k n : sProp 𝕄) ⊢ dst k n
  unfold held
  iintro H
  iexists f
  iexact H

/-- Block `n` of device `d`'s staging buffer at a share, spelled out. -/
abbrev lent (ob : (cc0_stg3_0 : Ref sig .tc).ty.Contents (Elt F)) (q : PosShare TreeShare) (d : Dev nD) (n : Fin 8) : sProp 𝕄 :=
  (blk n).view.loc (d : Thread nD τ) ↦[(blk n).view.set]{q} ob

/-- A finished block in the shares its three copies take. -/
theorem share3 (ob : (cc0_stg3_0 : Ref sig .tc).ty.Contents (Elt F)) (n : Fin 8) {X : (cc0_stg3_0 : Ref sig .tc).ty.Contents (Elt F)}
    (h : ∀ i ∈ oM.view.setOn (blkR n).set, X i = ob i) : (pcs 0 oM (blkR n) X : sProp 𝕄) ⊢
      iprop(lent ob (shr (kids 0).length 0) 0 n ∗ lent ob (shr (kids 0).length 1) 0 n ∗ lent ob (shr (kids 0).length 2) 0 n) := by
  unfold pcs lent
  rw [pointsTo_congr h, blk_set]
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]
  · iexact H0
  isplitl [H1]
  · iexact H1
  iexact H2

/-- Two families of eight side by side. -/
theorem eight_sep (Φ Ψ : Fin 8 → sProp 𝕄) : iprop(eight Φ ∗ eight Ψ) ⊢ eight fun n => iprop(Φ n ∗ Ψ n) := by
  rw [← eight_eq, ← eight_eq, ← eight_eq, bigSep_sep']
theorem eight_mono {Φ Ψ : Fin 8 → sProp 𝕄} (h : ∀ n, Φ n ⊢ Ψ n) : eight Φ ⊢ eight Ψ := by
  rw [← eight_eq, ← eight_eq]; exact bigSep_mono fun n _ => h n

/-- The shares of all blocks put together again. -/
theorem join3 (ob : (cc0_stg3_0 : Ref sig .tc).ty.Contents (Elt F)) (d : Dev nD) :
    eight (fun n => iprop(lent ob fullShare.left d n ∗ lent ob fullShare.right.left d n ∗ lent ob fullShare.right.right d n)) ⊢ (pc d oM ob : sProp 𝕄) := by
  unfold pc
  rw [out_blocks, eight_eq]
  refine eight_mono fun n => ?_
  unfold held lent
  iintro ⟨H0, H1, H2⟩
  ihave H := (pointsTo_share (PosShare.mem_left_op_right fullShare.right)).2 $$ [H1 H2]
  · isplitl [H1] <;> iassumption
  ihave H := (pointsTo_share (PosShare.mem_left_op_right fullShare)).2 $$ [H0 H]
  · isplitl [H0] <;> iassumption
  iexact H
theorem join2 (ob : (cc0_stg3_0 : Ref sig .tc).ty.Contents (Elt F)) (d : Dev nD) :
    eight (fun n => iprop(lent ob fullShare.left d n ∗ lent ob fullShare.right d n)) ⊢ (pc d oM ob : sProp 𝕄) := by
  unfold pc
  rw [out_blocks, eight_eq]
  refine eight_mono fun n => ?_
  unfold held lent
  iintro ⟨H0, H1⟩
  ihave H := (pointsTo_share (PosShare.mem_left_op_right fullShare)).2 $$ [H0 H1]
  · isplitl [H0] <;> iassumption
  iexact H
theorem join1 (ob : (cc0_stg3_0 : Ref sig .tc).ty.Contents (Elt F)) (d : Dev nD) :
    eight (fun n => lent ob fullShare d n) ⊢ (pc d oM ob : sProp 𝕄) := by
  unfold pc
  rw [out_blocks, eight_eq]
  exact eight_mono fun n => .rfl

/-- Two pieces of a memref, whatever they hold, are the memref. -/
theorem two_any (c : Dev nD) (m : Memref sig .tc sp s e) (R R' : Rect s) (X Y : Buf (Elt F) (m.view.loc (c : Thread nD τ)))
    (hd : Disjoint R.set R'.set) (hu : R.set ∪ R'.set = Finset.univ) : iprop(pcs c m R X ∗ pcs c m R' Y) ⊢ (iprop(∃ Z, pc c m Z) : sProp 𝕄) := by
  classical
  have hd' : Disjoint (m.view.setOn R.set) (m.view.setOn R'.set) := (Finset.disjoint_map _).mpr hd
  iintro ⟨H, H'⟩
  iexists fun i => if i ∈ m.view.setOn R.set then X i else Y i
  iapply (pc_two c m R R' _ hd hu).2
  isplitl [H]
  · iapply (pcs_congr c m R fun i hi => (if_pos hi).symm) $$ H
  · iapply (pcs_congr c m R' fun i hi => (if_neg (Finset.disjoint_right.mp hd' hi)).symm) $$ H'

end Cert.Tree
end
-- ==== Proof.Ghost.lean ====
/-
  The ghost state a device starts from and what it ends with.
-/
module

public import proofs.«01_k».proof.Proof.Mem
public import Idealize.ShloMosaic.Lib.SparseCore.ProtocolKit

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

abbrev 𝒱₀ : Variants := Variants.none

abbrev body : Prog (TpuEff nD τ sig (Elt F) Λ₀ .tc) PUnit :=
  cc0_body (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9

variable (ob : (cc0_stg3_0 : Ref sig .tc).ty.Contents (Elt F)) (eb : (cc0_scratch4 : Ref sig .tc).ty.Contents (Elt F))

/-! ## Cells -/

/-- The kernel's own cells of a device: barrier and edge rows, copies sent, blocks received. -/
abbrev Cell : Type := Fin 3 ⊕ (Fin 8 × Fin 3) ⊕ Fin 8
/-- The semaphore of a cell. -/
def csem : Cell → SemLoc sig
  | .inl k => ![.reg barS, .dma esS, .dma erS] k
  | .inr (.inl (n, j)) => .dma (sS n j)
  | .inr (.inr n) => .dma (rS n)
abbrev kcell (c : Dev nD × Cell) : GSem nD τ sig := ((c.1 : Thread nD τ), csem c.2)

abbrev cS (n : Fin 8) (j : Fin 3) : Cell := .inr (.inl (n, j))
abbrev cR (n : Fin 8) : Cell := .inr (.inr n)

/-- The semaphores of the local copies. -/
abbrev lS (n : ℕ) (h : ∀ i, (![n] : Fin 1 → ℕ) i + S1.size i ≤ S2.size i) : SemLoc sig :=
  .dma ((cc0_scratch5.slice (Rect.unit (s := S2) ![n] S1.size h)).squeeze S_ squeezes_S1_S_).sem

/-- A family over the cells of device `d`, laid out. -/
def rows (Φ : GSem nD τ sig → sProp 𝕄) (d : Dev nD) : sProp 𝕄 :=
  iprop((Φ (barCell d) ∗ Φ (esCell d) ∗ Φ (erCell d))
    ∗ eight (fun n => iprop(Φ (sCell d n 0) ∗ Φ (sCell d n 1) ∗ Φ (sCell d n 2))) ∗ eight (fun n => Φ (rCell d n)))

theorem bigSep_three (Φ : Fin 3 → sProp 𝕄) : bigSep Finset.univ Φ = iprop(Φ 0 ∗ Φ 1 ∗ Φ 2) := bigSep_univ_eq_bigSepL [0, 1, 2] (by decide) (by decide) Φ

theorem rows_eq (Φ : GSem nD τ sig → sProp 𝕄) (d : Dev nD) : (bigSep Finset.univ fun c : Cell => Φ (kcell (d, c))) = rows Φ d := by
  rw [bigSep_univ_sum, bigSep_univ_sum, bigSep_univ_prod, bigSep_three, eight_eq, eight_eq]
  unfold rows
  simp only [bigSep_three]
  rfl

/-! ## The records -/

def records (κ : Dev nD × Cell → ℕ) : sProp 𝕄 :=
  iprop((bigSep Finset.univ fun c : Dev nD × Cell => cellInv ER (Rd ob eb) (κ c) (kcell c))
    ∗ bigSep Finset.univ fun c : Dev nD × Cell => reached ER (kcell c) 0)

instance records_persistent (κ : Dev nD × Cell → ℕ) : BI.Persistent (records ob eb κ) := by unfold records; infer_instance

/-- One cell's records. -/
theorem rec_at (κ : Dev nD × Cell → ℕ) (c : Dev nD × Cell) :
    records ob eb κ ⊢ iprop(cellInv ER (Rd ob eb) (κ c) (kcell c) ∗ reached ER (kcell c) 0) :=
  BI.sep_mono (bigSep_elim (Finset.mem_univ c)) (bigSep_elim (Finset.mem_univ c))

theorem rec_bar (κ : Dev nD × Cell → ℕ) (d : Dev nD) : records ob eb κ ⊢ iprop(cellInv ER (Rd ob eb) (κ (d, .inl 0)) (barCell d) ∗ reached ER (barCell d) 0) :=
  rec_at ob eb κ (d, .inl 0)
theorem rec_es (κ : Dev nD × Cell → ℕ) (d : Dev nD) : records ob eb κ ⊢ iprop(cellInv ER (Rd ob eb) (κ (d, .inl 1)) (esCell d) ∗ reached ER (esCell d) 0) :=
  rec_at ob eb κ (d, .inl 1)
theorem rec_er (κ : Dev nD × Cell → ℕ) (d : Dev nD) : records ob eb κ ⊢ iprop(cellInv ER (Rd ob eb) (κ (d, .inl 2)) (erCell d) ∗ reached ER (erCell d) 0) :=
  rec_at ob eb κ (d, .inl 2)
theorem rec_s (κ : Dev nD × Cell → ℕ) (d : Dev nD) (n : Fin 8) (j : Fin 3) :
    records ob eb κ ⊢ iprop(cellInv ER (Rd ob eb) (κ (d, cS n j)) (sCell d n j) ∗ reached ER (sCell d n j) 0) := rec_at ob eb κ (d, cS n j)
theorem rec_r (κ : Dev nD × Cell → ℕ) (d : Dev nD) (n : Fin 8) :
    records ob eb κ ⊢ iprop(cellInv ER (Rd ob eb) (κ (d, cR n)) (rCell d n) ∗ reached ER (rCell d n) 0) := rec_at ob eb κ (d, cR n)

/-! ## What a device starts from and ends with -/

abbrev any (d : Dev nD) {sp : Space} {s : Shape} {e : EltTy} (m : Memref sig .tc sp s e) : sProp 𝕄 := iprop(∃ X, pc d m X)

theorem lend_e : (any (F := F) 0 eM : sProp 𝕄) ⊢ lend 0 := by
  unfold lend; rw [if_pos rfl]
theorem lend_o (d : Dev nD) (h : d ≠ 0) : (any (F := F) d oM : sProp 𝕄) ⊢ lend d := by
  unfold lend; rw [if_neg h]

/-- A device's duty tokens on device `k`'s cells. -/
abbrev toks (d : Dev nD) : sProp 𝕄 := eight fun k : Dev nD => rows (fun g => dutyTok ER g 0 d) k
/-- A device's positions on its own cells. -/
abbrev atS (d : Dev nD) : sProp 𝕄 := rows (fun g => atPos ER g 0 ∅ 0) d
/-- A device's credit for what the others send it. -/
abbrev creds (d : Dev nD) : sProp 𝕄 := iprop(cred (tallyAt (barCell d) () (dut d (.reg barS)).card)
  ∗ cred (tallyAt (erCell d) () (if d = 0 then NE else 0)) ∗ eight fun n => cred (tallyAt (rCell d n) () (if d = 0 then 0 else N)))

/-- A cell none of whose rounds left has a duty. -/
def spent (g : GSem nD τ sig) : sProp 𝕄 := iprop(∃ R, ⌜∀ r, R ≤ r → (Rd ob eb).duties g r = ∅⌝ ∗ atPos ER g R ∅ 0)

theorem spent_0 (d : Dev nD) (s : SemLoc sig) (h : dut d s = ∅) : atPos ER ((d : Thread nD τ), s) 0 ∅ 0 ⊢ spent ob eb ((d : Thread nD τ), s) := by
  unfold spent
  iintro H
  iexists 0
  isplitr
  · ipureintro
    intro r _
    rcases Nat.eq_zero_or_pos r with rfl | hr
    · rw [duties_tc, h]
    · exact duties_later ob eb _ r hr
  · iexact H
theorem spent_1 (g : GSem nD τ sig) : atPos ER g 1 ∅ 0 ⊢ spent ob eb g := by
  unfold spent
  iintro H
  iexists 1
  isplitr
  · ipureintro
    exact duties_later ob eb g
  · iexact H

/-- The cells of a family of blocks, each in a round with no duty left. -/
theorem spent_s (d : Dev nD) (r : Fin 3 → ℕ) (h : ∀ n j, (r j = 1) ∨ (r j = 0 ∧ dut d (.dma (sS n j)) = ∅)) :
    eight (fun n => iprop(atPos ER (sCell d n 0) (r 0) ∅ 0 ∗ atPos ER (sCell d n 1) (r 1) ∅ 0 ∗ atPos ER (sCell d n 2) (r 2) ∅ 0))
      ⊢ eight fun n => iprop(spent ob eb (sCell d n 0) ∗ spent ob eb (sCell d n 1) ∗ spent ob eb (sCell d n 2)) := by
  have H (n : Fin 8) (j : Fin 3) : atPos ER (sCell d n j) (r j) ∅ 0 ⊢ spent ob eb (sCell d n j) := by
    rcases h n j with h | ⟨h, h'⟩ <;> rw [h]
    · exact spent_1 ob eb _
    · exact spent_0 ob eb d _ h'
  exact eight_mono fun n => BI.sep_mono (H n 0) (BI.sep_mono (H n 1) (H n 2))
theorem spent_r (d : Dev nD) (r : ℕ) (h : ∀ n, (r = 1) ∨ (r = 0 ∧ dut d (.dma (rS n)) = ∅)) :
    eight (fun n => atPos ER (rCell d n) r ∅ 0) ⊢ eight fun n => spent ob eb (rCell d n) :=
  eight_mono fun n => by
    rcases h n with h | ⟨h, h'⟩ <;> rw [h]
    · exact spent_1 ob eb _
    · exact spent_0 ob eb d _ h'

variable (x : (cc0_stg0_0 : Ref sig .tc).ty.Contents (Elt F)) (wq : (cc0_stg1_0 : Ref sig .tc).ty.Contents (Elt F))
  (wo : (cc0_stg2_0 : Ref sig .tc).ty.Contents (Elt F)) (kk : (main_arg2 : Ref sig .tc).ty.Contents (Elt F))
  (vv : (main_arg3 : Ref sig .tc).ty.Contents (Elt F))

/-- The buffers and local semaphores a device starts from and ends with. -/
def mine (d : Dev nD) : sProp 𝕄 :=
  iprop(semVal ((d : Thread nD τ), lS 0 inb_S2_S1_0) 0 ∗ semVal ((d : Thread nD τ), lS 1 inb_S2_S1_1) 0
    ∗ pc d xM x ∗ pc d wqM wq ∗ pc d woM wo ∗ pc d kM kk ∗ pc d vM vv ∗ any d kbM ∗ any d vbM ∗ any d stM ∗ any d esM)

def begins (κ : Dev nD × Cell → ℕ) (W : Waits sig Unit) (d : Dev nD) : sProp 𝕄 :=
  iprop(records ob eb κ ∗ levAts L lv ∗ atS d ∗ toks d ∗ creds d ∗ owes d (O₀ d) W ∗ mine x wq wo kk vv d ∗ any d oM ∗ any d eM)

def ends (d : Dev nD) : sProp 𝕄 :=
  iprop((∃ W, owes d 0 W) ∗ rows (spent ob eb) d ∗ mine x wq wo kk vv d ∗ pc d oM ob ∗ any d eM)

end Cert.Tree
end
-- ==== Proof.Root.lean ====
/-
  Device 0: it computes the result block by block and sends each block to its three children.
-/
module

public import proofs.«01_k».proof.Proof.Ghost

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

variable (ob : (cc0_stg3_0 : Ref sig .tc).ty.Contents (Elt F)) (eb : (cc0_scratch4 : Ref sig .tc).ty.Contents (Elt F))

attribute [local sl_rounds] duties_tc amount_eq expect_eq dut_bar dut_r dut_s dut_er dut_es amt_r amt_s amt_er amt_es amt_bar
  payload_bar payload_r payload_s payload_er payload_es

/-- The cells device 0 owes from block `n` on. -/
theorem outs0 (n : ℕ) (h : n < 8) : debt (outs 0 n)
    = debt (outs 0 (n + 1)) + tallyAt (rCell 1 ⟨n, h⟩) () N + tallyAt (rCell 3 ⟨n, h⟩) () N + tallyAt (rCell 4 ⟨n, h⟩) () N := by
  have e : outs 0 n = [(4, .dma (rS ⟨n, h⟩)), (3, .dma (rS ⟨n, h⟩)), (1, .dma (rS ⟨n, h⟩))] ++ outs 0 (n + 1) := by
    interval_cases n <;> rfl
  rw [e]
  simp only [List.cons_append, List.nil_append, debt, amt_r]

/-- Block `n` of device 0's staging buffer, before its store. -/
abbrev raw (f : (cc0_stg3_0 : Ref sig .tc).ty.Contents (Elt F)) (n : Fin 8) : sProp 𝕄 := pcs 0 oM (blkR n) f

theorem out_raw (f : (cc0_stg3_0 : Ref sig .tc).ty.Contents (Elt F)) : pc 0 oM f ⊢ (eight (raw f) : sProp 𝕄) := by
  unfold pc
  rw [out_blocks, eight_eq]
  refine eight_mono fun n => ?_
  unfold held raw pcs
  rw [blk_set]

/-- One copy of a block: the records of its two cells, the two duties, the block at the share lent, the memory it lands in. -/
abbrev copyG (κ : Dev nD × Cell → ℕ) (d k : Dev nD) (n : Fin 8) (j : Fin 3) : sProp 𝕄 :=
  iprop((cellInv ER (Rd ob eb) (κ (d, cS n j)) (sCell d n j) ∗ reached ER (sCell d n j) 0)
    ∗ (cellInv ER (Rd ob eb) (κ (k, cR n)) (rCell k n) ∗ reached ER (rCell k n) 0)
    ∗ dutyTok ER (sCell d n j) 0 d ∗ dutyTok ER (rCell k n) 0 d ∗ lent ob (shr (kids d).length j) d n ∗ dst k n)

/-- The duties of device 0's copies of block `n`. -/
abbrev dutiesG (n : Fin 8) : sProp 𝕄 :=
  iprop((dutyTok ER (sCell 0 n 0) 0 0 ∗ dutyTok ER (sCell 0 n 1) 0 0 ∗ dutyTok ER (sCell 0 n 2) 0 0)
    ∗ dutyTok ER (rCell 4 n) 0 0 ∗ dutyTok ER (rCell 3 n) 0 0 ∗ dutyTok ER (rCell 1 n) 0 0)
/-- Where its copies land. -/
abbrev dsts (n : Fin 8) : sProp 𝕄 := iprop(dst (F := F) 1 n ∗ dst 3 n ∗ dst 4 n)

theorem lend3 : (iprop(lend (F := F) 1 ∗ lend (F := F) 3 ∗ lend (F := F) 4) : sProp 𝕄) ⊢ eight dsts := by
  refine (BI.sep_mono (lend_blocks 1 (by decide)) ((BI.sep_mono (lend_blocks 3 (by decide)) (lend_blocks 4 (by decide))).trans (eight_sep _ _))).trans (eight_sep _ _)

theorem blk_ok {ob : (cc0_stg3_0 : Ref sig .tc).ty.Contents (Elt F)} {a : Fin 8 → Vec F S1x256x1024 .bf16} (h : ob = blocksOf a) (n : Fin 8) {w} (hw : a n = w) :
    View.readAt (Elt F) oM.view (blkR n).toLoadRect ob = w := by
  rw [h, ← hw]; exact blocksOf_blk a n

/-- Device 0's duties. -/
theorem duties0 : (toks (F := F) 0 : sProp 𝕄) ⊢ iprop(dutyTok ER (barCell 1) 0 0 ∗ eight dutiesG) := by
  unfold toks rows
  rw [eight]
  iintro ⟨⟨-, HS, -⟩, ⟨⟨HB, -⟩, -, H1⟩, -, ⟨-, -, H3⟩, ⟨-, -, H4⟩, -⟩
  isplitl [HB]
  · iexact HB
  iapply (eight_sep _ _)
  isplitl [HS]
  · iexact HS
  iapply (eight_sep _ _)
  isplitl [H4]
  · iexact H4
  iapply (eight_sep _ _)
  isplitl [H3] <;> iassumption

/-- A stored block and what its three copies take. -/
theorem copies_start (κ : Dev nD × Cell → ℕ) (n : Fin 8) :
    iprop(records ob eb κ ∗ pcs 0 oM (blkR n) ob ∗ dutiesG n ∗ dsts n) ⊢
      (iprop(copyG ob eb κ 0 4 n 0 ∗ copyG ob eb κ 0 3 n 1 ∗ copyG ob eb κ 0 1 n 2) : sProp 𝕄) := by
  iintro ⟨#HR, HX, ⟨⟨HA, HB, HC⟩, HA', HB', HC'⟩, HD, HE, HG⟩
  ihave HS := (share3 ob n fun _ _ => rfl) $$ HX
  icases HS with ⟨H0, H1, H2⟩
  ihave ⟨#I0, #R0⟩ := (rec_s ob eb κ 0 n 0) $$ HR
  ihave ⟨#I1, #R1⟩ := (rec_s ob eb κ 0 n 1) $$ HR
  ihave ⟨#I2, #R2⟩ := (rec_s ob eb κ 0 n 2) $$ HR
  ihave ⟨#J0, #Q0⟩ := (rec_r ob eb κ 4 n) $$ HR
  ihave ⟨#J1, #Q1⟩ := (rec_r ob eb κ 3 n) $$ HR
  ihave ⟨#J2, #Q2⟩ := (rec_r ob eb κ 1 n) $$ HR
  iclose

set_option maxHeartbeats 40000000 in
theorem root (κ : Dev nD × Cell → ℕ) (W : Waits sig Unit) (x wq wo kk vv)
    (hob : ob = blocksOf (blkVal x wq wo (kbOf kk eb) (vbOf vv eb))) :
    begins ob eb x wq wo kk vv κ W 0 ⊢ wp frame (wpE (defs₀ (F := F)) 𝒱₀ ((0 : Dev nD) : Thread nD τ) none) Set.univ body fun _ => ends ob eb x wq wo kk vv 0 := by
  have hmw := mayWaits_outs (F := F)
  have hmw2 := mayWait_outs (F := F)
  unfold begins mine atS creds rows
  iintro ⟨#HRec, #Hlev, ⟨⟨Ha0, Hes, Hae⟩, Hp, Hq⟩, Htok, ⟨Hc0, Hce, -⟩, HO, ⟨Hs4, Hs5, Hx, Hwq, Hwo, Hk, Hv, ⟨%kb, Hkb⟩, ⟨%vb, Hvb⟩, ⟨%st, Hst⟩, ⟨%est, Hest⟩⟩, ⟨%f, Ho⟩, He⟩
  ihave Hl := (lend_e (F := F)) $$ He
  ihave ⟨#HI1, #Hr⟩ := (rec_bar ob eb κ 1) $$ HRec
  ihave ⟨#HI2, -⟩ := (rec_bar ob eb κ 0) $$ HRec
  ihave ⟨#HI3, -⟩ := (rec_er ob eb κ 0) $$ HRec
  ihave Hg := (duties0 (F := F)) $$ Htok
  icases Hg with ⟨Ht, Hg⟩
  ihave Hk2 := (pc_two 0 kbM mainR tailR kb rows_disjoint rows_all).1 $$ Hkb
  ihave Hv2 := (pc_two 0 vbM mainR tailR vb rows_disjoint rows_all).1 $$ Hvb
  ihave Hs2 := (pc_two 0 stM stR0 stR1 st halves_disjoint halves_all).1 $$ Hst
  ihave Ho := (out_raw f) $$ Ho
  icases Hk2 with ⟨Hkb, Hkt⟩
  icases Hv2 with ⟨Hvb, Hvt⟩
  icases Hs2 with ⟨Hst, Hst1⟩
  rw [show O₀ 0 = debt (outs 0 0) + tallyAt (barCell 1) () 1 from rfl, show (dut 0 (.reg barS)).card = 3 from by decide, if_pos rfl]
  unfold eight
  icases Ho with ⟨Ho0, Ho1, Ho2, Ho3, Ho4, Ho5, Ho6, Ho7⟩
  icases Hg with ⟨Hg0, Hg1, Hg2, Hg3, Hg4, Hg5, Hg6, Hg7⟩
  icases Hp with ⟨⟨Hp00, Hp01, Hp02⟩, ⟨Hp10, Hp11, Hp12⟩, ⟨Hp20, Hp21, Hp22⟩, ⟨Hp30, Hp31, Hp32⟩, ⟨Hp40, Hp41, Hp42⟩, ⟨Hp50, Hp51, Hp52⟩, ⟨Hp60, Hp61, Hp62⟩, ⟨Hp70, Hp71, Hp72⟩⟩
  unfold body
  (set_option sl_exec.stopBefore "k0_part4" in
    sl_exec (disch := decide))
  ihave Hkb := (pcs_congr 0 kbM mainR (Y := kbOf kk eb) (writes_agree kbM.view _ _ mainR _ (funext fun y => (rowsOf_main _ _ y).trans ?_))) $$ Hkb
  · exact congrArg (fun z => k0_pay2 (k0_pay1 z) y) (reshape_copy (View.slice stM.view stR0) (View.slice kM.view allR) _ _ _ st kk).symm
  ihave Hvb := (pcs_congr 0 vbM mainR (Y := vbOf vv eb) (writes_agree vbM.view _ _ mainR _ (funext fun y => (rowsOf_main _ _ y).trans ?_))) $$ Hvb
  · exact congrArg (fun z => k0_pay3 z y) (reshape_copy (View.slice stM.view stR1) (View.slice vM.view allR) _ _ _ st vv).symm
  dsimp only
  sl_exec (disch := decide)
  ihave H := (lend3 (F := F)) $$ Ha0_pay1
  unfold eight
  icases H with ⟨Hd0, Hd1, Hd2, Hd3, Hd4, Hd5, Hd6, Hd7⟩
  ihave Ho0 := (pcs_congr 0 oM (blkR 0) (Y := ob) (writes_agree oM.view _ _ (blkR 0) _ (blk_ok hob 0 ?_))) $$ Ho0
  · rfl
  ihave H := (copies_start ob eb κ 0) $$ [Ho0 Hg0 Hd0]
  · iclose
  icases H with ⟨⟨⟨#HI00, #HQ00⟩, ⟨#HJ00, #HR00⟩, Ht00, Hu00, Hm00, ⟨%f00, Hw00⟩⟩, ⟨⟨#HI01, #HQ01⟩, ⟨#HJ01, #HR01⟩, Ht01, Hu01, Hm01, ⟨%f01, Hw01⟩⟩, ⟨⟨#HI02, #HQ02⟩, ⟨#HJ02, #HR02⟩, Ht02, Hu02, Hm02, ⟨%f02, Hw02⟩⟩⟩
  unfold lent
  rw [outs0 0 (by decide)]
  sl_exec (disch := decide)
  ihave Ho1 := (pcs_congr 0 oM (blkR 1) (Y := ob) (writes_agree oM.view _ _ (blkR 1) _ (blk_ok hob 1 ?_))) $$ Ho1
  · rfl
  ihave H := (copies_start ob eb κ 1) $$ [Ho1 Hg1 Hd1]
  · iclose
  icases H with ⟨⟨⟨#HI10, #HQ10⟩, ⟨#HJ10, #HR10⟩, Ht10, Hu10, Hm10, ⟨%f10, Hw10⟩⟩, ⟨⟨#HI11, #HQ11⟩, ⟨#HJ11, #HR11⟩, Ht11, Hu11, Hm11, ⟨%f11, Hw11⟩⟩, ⟨⟨#HI12, #HQ12⟩, ⟨#HJ12, #HR12⟩, Ht12, Hu12, Hm12, ⟨%f12, Hw12⟩⟩⟩
  unfold lent
  rw [outs0 1 (by decide)]
  sl_exec (disch := decide)
  ihave Ho2 := (pcs_congr 0 oM (blkR 2) (Y := ob) (writes_agree oM.view _ _ (blkR 2) _ (blk_ok hob 2 ?_))) $$ Ho2
  · rfl
  ihave H := (copies_start ob eb κ 2) $$ [Ho2 Hg2 Hd2]
  · iclose
  icases H with ⟨⟨⟨#HI20, #HQ20⟩, ⟨#HJ20, #HR20⟩, Ht20, Hu20, Hm20, ⟨%f20, Hw20⟩⟩, ⟨⟨#HI21, #HQ21⟩, ⟨#HJ21, #HR21⟩, Ht21, Hu21, Hm21, ⟨%f21, Hw21⟩⟩, ⟨⟨#HI22, #HQ22⟩, ⟨#HJ22, #HR22⟩, Ht22, Hu22, Hm22, ⟨%f22, Hw22⟩⟩⟩
  unfold lent
  rw [outs0 2 (by decide)]
  sl_exec (disch := decide)
  ihave Ho3 := (pcs_congr 0 oM (blkR 3) (Y := ob) (writes_agree oM.view _ _ (blkR 3) _ (blk_ok hob 3 ?_))) $$ Ho3
  · rfl
  ihave H := (copies_start ob eb κ 3) $$ [Ho3 Hg3 Hd3]
  · iclose
  icases H with ⟨⟨⟨#HI30, #HQ30⟩, ⟨#HJ30, #HR30⟩, Ht30, Hu30, Hm30, ⟨%f30, Hw30⟩⟩, ⟨⟨#HI31, #HQ31⟩, ⟨#HJ31, #HR31⟩, Ht31, Hu31, Hm31, ⟨%f31, Hw31⟩⟩, ⟨⟨#HI32, #HQ32⟩, ⟨#HJ32, #HR32⟩, Ht32, Hu32, Hm32, ⟨%f32, Hw32⟩⟩⟩
  unfold lent
  rw [outs0 3 (by decide)]
  sl_exec (disch := decide)
  ihave Ho4 := (pcs_congr 0 oM (blkR 4) (Y := ob) (writes_agree oM.view _ _ (blkR 4) _ (blk_ok hob 4 ?_))) $$ Ho4
  · rfl
  ihave H := (copies_start ob eb κ 4) $$ [Ho4 Hg4 Hd4]
  · iclose
  icases H with ⟨⟨⟨#HI40, #HQ40⟩, ⟨#HJ40, #HR40⟩, Ht40, Hu40, Hm40, ⟨%f40, Hw40⟩⟩, ⟨⟨#HI41, #HQ41⟩, ⟨#HJ41, #HR41⟩, Ht41, Hu41, Hm41, ⟨%f41, Hw41⟩⟩, ⟨⟨#HI42, #HQ42⟩, ⟨#HJ42, #HR42⟩, Ht42, Hu42, Hm42, ⟨%f42, Hw42⟩⟩⟩
  unfold lent
  rw [outs0 4 (by decide)]
  sl_exec (disch := decide)
  ihave Ho5 := (pcs_congr 0 oM (blkR 5) (Y := ob) (writes_agree oM.view _ _ (blkR 5) _ (blk_ok hob 5 ?_))) $$ Ho5
  · rfl
  ihave H := (copies_start ob eb κ 5) $$ [Ho5 Hg5 Hd5]
  · iclose
  icases H with ⟨⟨⟨#HI50, #HQ50⟩, ⟨#HJ50, #HR50⟩, Ht50, Hu50, Hm50, ⟨%f50, Hw50⟩⟩, ⟨⟨#HI51, #HQ51⟩, ⟨#HJ51, #HR51⟩, Ht51, Hu51, Hm51, ⟨%f51, Hw51⟩⟩, ⟨⟨#HI52, #HQ52⟩, ⟨#HJ52, #HR52⟩, Ht52, Hu52, Hm52, ⟨%f52, Hw52⟩⟩⟩
  unfold lent
  rw [outs0 5 (by decide)]
  sl_exec (disch := decide)
  ihave Ho6 := (pcs_congr 0 oM (blkR 6) (Y := ob) (writes_agree oM.view _ _ (blkR 6) _ (blk_ok hob 6 ?_))) $$ Ho6
  · rfl
  ihave H := (copies_start ob eb κ 6) $$ [Ho6 Hg6 Hd6]
  · iclose
  icases H with ⟨⟨⟨#HI60, #HQ60⟩, ⟨#HJ60, #HR60⟩, Ht60, Hu60, Hm60, ⟨%f60, Hw60⟩⟩, ⟨⟨#HI61, #HQ61⟩, ⟨#HJ61, #HR61⟩, Ht61, Hu61, Hm61, ⟨%f61, Hw61⟩⟩, ⟨⟨#HI62, #HQ62⟩, ⟨#HJ62, #HR62⟩, Ht62, Hu62, Hm62, ⟨%f62, Hw62⟩⟩⟩
  unfold lent
  rw [outs0 6 (by decide)]
  sl_exec (disch := decide)
  ihave Hkt := (pcs_congr 0 kbM tailR (Y := kbOf kk eb) ?_) $$ Hkt
  · refine writes_agree kbM.view _ _ tailR _ (funext fun y => (rowsOf_tail _ _ y).trans ?_)
    exact congrArg (fun z => k0_pay102 (View.readAt (Elt F) eM.view edgeR0.toLoadRect z) y) (View.write_whole_univ cc0_scratch4 Hae_pay1_v eb).symm
  ihave Hvt := (pcs_congr 0 vbM tailR (Y := vbOf vv eb) ?_) $$ Hvt
  · refine writes_agree vbM.view _ _ tailR _ (funext fun y => (rowsOf_tail _ _ y).trans ?_)
    exact congrArg (fun z => k0_pay103 (View.readAt (Elt F) eM.view edgeR1.toLoadRect z) y) (View.write_whole_univ cc0_scratch4 Hae_pay1_v eb).symm
  ihave Hkb := (pc_two 0 kbM mainR tailR (kbOf kk eb) rows_disjoint rows_all).2 $$ [Hkb Hkt]
  · isplitl [Hkb] <;> iassumption
  ihave Hvb := (pc_two 0 vbM mainR tailR (vbOf vv eb) rows_disjoint rows_all).2 $$ [Hvb Hvt]
  · isplitl [Hvb] <;> iassumption
  unfold pc
  sl_exec (disch := decide)
  ihave Ho7 := (pcs_congr 0 oM (blkR 7) (Y := ob) (writes_agree oM.view _ _ (blkR 7) _ (blk_ok hob 7 ?_))) $$ Ho7
  · rfl
  ihave H := (copies_start ob eb κ 7) $$ [Ho7 Hg7 Hd7]
  · iclose
  icases H with ⟨⟨⟨#HI70, #HQ70⟩, ⟨#HJ70, #HR70⟩, Ht70, Hu70, Hm70, ⟨%f70, Hw70⟩⟩, ⟨⟨#HI71, #HQ71⟩, ⟨#HJ71, #HR71⟩, Ht71, Hu71, Hm71, ⟨%f71, Hw71⟩⟩, ⟨⟨#HI72, #HQ72⟩, ⟨#HJ72, #HR72⟩, Ht72, Hu72, Hm72, ⟨%f72, Hw72⟩⟩⟩
  unfold lent
  rw [outs0 7 (by decide)]
  sl_exec (disch := decide)
  rw [wp_ret]
  imodintro
  unfold ends mine rows
  isplitl [HO]
  · iexists _
    iexact HO
  isplitl [Ha0 Hes Hae Hq Hp00 Hp01 Hp02 Hp10 Hp11 Hp12 Hp20 Hp21 Hp22 Hp30 Hp31 Hp32 Hp40 Hp41 Hp42 Hp50 Hp51 Hp52 Hp60 Hp61 Hp62 Hp70 Hp71 Hp72]
  · isplitl [Ha0 Hes Hae]
    · isplitl [Ha0]
      · iapply (spent_1 ob eb _) $$ Ha0
      isplitl [Hes]
      · iapply (spent_0 ob eb 0 _ (by decide)) $$ Hes
      · iapply (spent_1 ob eb _) $$ Hae
    isplitr [Hq]
    · iapply (spent_s ob eb 0 (fun _ => 1) fun _ _ => .inl rfl)
      unfold eight
      iclose
    · iapply (spent_r ob eb 0 0 fun n => .inr ⟨rfl, by revert n; decide⟩)
      unfold eight
      iexact Hq
  isplitl [Hs4 Hs5 Hx Hwq Hwo Hk Hv Hkb Hvb Hst Hst1 Hest]
  · ihave Hst := (two_any 0 stM stR0 stR1 _ _ halves_disjoint halves_all) $$ [Hst Hst1]
    · isplitl [Hst] <;> iassumption
    icases Hst with ⟨%st', Hst⟩
    sl_close
  isplitr [Hae_pay1]
  · iapply (join3 ob 0)
    unfold eight lent
    iclose
  · iexists _
    iexact Hae_pay1

end Cert.Tree
end
-- ==== Proof.Leaf.lean ====
/-
  The devices that receive blocks, and those of them that send none: 2, 5 and 6.
-/
module

public import proofs.«01_k».proof.Proof.Ghost

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

variable (ob : (cc0_stg3_0 : Ref sig .tc).ty.Contents (Elt F)) (eb : (cc0_scratch4 : Ref sig .tc).ty.Contents (Elt F))

attribute [local sl_rounds] duties_tc amount_eq expect_eq dut_bar dut_r dut_s dut_er dut_es amt_r amt_s amt_er amt_es amt_bar
  payload_bar payload_r payload_s payload_er payload_es

theorem eight_all {P : sProp 𝕄} [BI.Persistent P] {Φ : Fin 8 → sProp 𝕄} (h : ∀ n, P ⊢ Φ n) : P ⊢ eight Φ := by
  have H (n : Fin 8) {Q : sProp 𝕄} (hQ : P ⊢ Q) : P ⊢ iprop(Φ n ∗ Q) := by
    iintro #H
    isplitr
    · iapply (h n) $$ H
    · iapply hQ $$ H
  unfold eight
  exact H 0 (H 1 (H 2 (H 3 (H 4 (H 5 (H 6 (h 7)))))))

/-- What a device needs to receive block `n`. -/
abbrev recvG (κ : Dev nD × Cell → ℕ) (d : Dev nD) (n : Fin 8) : sProp 𝕄 :=
  iprop((cellInv ER (Rd ob eb) (κ (d, cR n)) (rCell d n) ∗ reached ER (rCell d n) 0) ∗ atPos ER (rCell d n) 0 ∅ 0 ∗ cred (tallyAt (rCell d n) () N))

theorem recvs (κ : Dev nD × Cell → ℕ) (d : Dev nD) (hd : d ≠ 0) :
    iprop(records ob eb κ ∗ eight (fun n => atPos ER (rCell d n) 0 ∅ 0) ∗ eight fun n => cred (tallyAt (rCell d n) () (if d = 0 then 0 else N))) ⊢ (eight (recvG ob eb κ d) : sProp 𝕄) := by
  rw [if_neg hd]
  exact (BI.sep_mono (eight_all fun n => rec_r ob eb κ d n) (eight_sep _ _)).trans (eight_sep _ _)

/-- The signal a device sends as it starts. -/
abbrev entry (κ : Dev nD × Cell → ℕ) (d k : Dev nD) : sProp 𝕄 :=
  iprop((cellInv ER (Rd ob eb) (κ (k, .inl 0)) (barCell k) ∗ reached ER (barCell k) 0) ∗ dutyTok ER (barCell k) 0 d)

theorem tok_bar (d : Dev nD) (k : Dev nD) : (toks (F := F) d : sProp 𝕄) ⊢ dutyTok ER (barCell k) 0 d := by
  unfold toks
  rw [← eight_eq]
  refine (bigSep_elim (Finset.mem_univ k)).trans ?_
  show (rows (fun g => dutyTok ER g 0 d) k : sProp 𝕄) ⊢ dutyTok ER (barCell k) 0 d
  unfold rows
  iintro ⟨⟨H, -⟩, -⟩
  iexact H

/-- An arrived block. -/
abbrev arrived (d : Dev nD) (n : Fin 8) : sProp 𝕄 :=
  iprop(∃ f, (blk n).view.loc (d : Thread nD τ) ↦[(blk n).view.set]{fullShare} (blk n).view.write (Elt F) f ((blk n).view.read (Elt F) ob) Finset.univ)

theorem arrived_one (d : Dev nD) (n : Fin 8) (f : (blk n).view.ty.Contents (Elt F)) :
    ((blk n).view.loc (d : Thread nD τ) ↦[(blk n).view.set]{fullShare} (blk n).view.write (Elt F) f ((blk n).view.read (Elt F) ob) Finset.univ : sProp 𝕄)
      ⊢ lent ob fullShare d n := by
  unfold lent
  refine BIBase.Entails.of_eq (pointsTo_congr fun i hi => ?_)
  obtain ⟨y, -, rfl⟩ := Finset.mem_map.mp hi
  exact (View.write_emb_of_mem (v := (blk n).view) f _ (Finset.mem_univ y)).trans rfl

theorem arrived_lent (d : Dev nD) (n : Fin 8) : (arrived ob d n : sProp 𝕄) ⊢ lent ob fullShare d n :=
  exists_elim fun f => arrived_one ob d n f

/-- The cells of a device that sends nothing but the signal, apart from those of the blocks. -/
abbrev idle (d : Dev nD) : sProp 𝕄 :=
  iprop((atPos ER (barCell d) 0 ∅ 0 ∗ atPos ER (esCell d) 0 ∅ 0 ∗ atPos ER (erCell d) 0 ∅ 0)
    ∗ eight (fun n => iprop(atPos ER (sCell d n 0) 0 ∅ 0 ∗ atPos ER (sCell d n 1) 0 ∅ 0 ∗ atPos ER (sCell d n 2) 0 ∅ 0)))

variable (x : (cc0_stg0_0 : Ref sig .tc).ty.Contents (Elt F)) (wq : (cc0_stg1_0 : Ref sig .tc).ty.Contents (Elt F))
  (wo : (cc0_stg2_0 : Ref sig .tc).ty.Contents (Elt F)) (kk : (main_arg2 : Ref sig .tc).ty.Contents (Elt F))
  (vv : (main_arg3 : Ref sig .tc).ty.Contents (Elt F))

theorem leaf_start (κ : Dev nD × Cell → ℕ) (W : Waits sig Unit) (d k : Dev nD) (hd : d ≠ 0) :
    begins ob eb x wq wo kk vv κ W d ⊢
      iprop(levAts L lv ∗ entry ob eb κ d k ∗ lend d ∗ owes d (O₀ d) W ∗ eight (recvG ob eb κ d)
        ∗ idle d ∗ mine x wq wo kk vv d ∗ any d eM) := by
  unfold begins atS creds rows
  iintro ⟨#HRec, #Hlev, ⟨Ha, Hp, Hq⟩, Htok, ⟨-, -, Hc⟩, HO, Hm, Ho, He⟩
  ihave Hl := (lend_o (F := F) d hd) $$ Ho
  ihave Ht := (tok_bar (F := F) d k) $$ Htok
  ihave ⟨#HI, #Hr⟩ := (rec_bar ob eb κ k) $$ HRec
  ihave HR := (recvs ob eb κ d hd) $$ [Hq Hc]
  · isplitr
    · iexact HRec
    isplitl [Hq] <;> iassumption
  iclose

theorem leaf_ends (d : Dev nD) (W : Waits sig Unit)
    (h0 : dut d (.reg barS) = ∅) (h1 : dut d (.dma esS) = ∅) (h2 : dut d (.dma erS) = ∅) (h3 : ∀ n j, dut d (.dma (sS n j)) = ∅) :
    iprop(owes d 0 W ∗ eight (fun n => atPos ER (rCell d n) 1 ∅ 0) ∗ eight (arrived ob d)
        ∗ idle d ∗ mine x wq wo kk vv d ∗ any d eM) ⊢ ends ob eb x wq wo kk vv d := by
  unfold ends rows
  iintro ⟨HO, Hq, Ho, ⟨⟨Hb, Hes, Her⟩, Hp⟩, Hm, He⟩
  isplitl [HO]
  · iexists _
    iexact HO
  isplitl [Hq Hb Hes Her Hp]
  · isplitl [Hb Hes Her]
    · isplitl [Hb]
      · iapply (spent_0 ob eb d _ h0) $$ Hb
      isplitl [Hes]
      · iapply (spent_0 ob eb d _ h1) $$ Hes
      · iapply (spent_0 ob eb d _ h2) $$ Her
    isplitl [Hp]
    · iapply (spent_s ob eb d (fun _ => 0) fun n j => .inr ⟨rfl, h3 n j⟩) $$ Hp
    · iapply (spent_r ob eb d 1 fun _ => .inl rfl) $$ Hq
  isplitl [Hm]
  · iexact Hm
  isplitl [Ho]
  · iapply (join1 ob d)
    iapply (eight_mono (arrived_lent ob d)) $$ Ho
  · iexact He

set_option maxHeartbeats 4000000 in
theorem leaf2 (κ : Dev nD × Cell → ℕ) (W : Waits sig Unit) :
    begins ob eb x wq wo kk vv κ W 2 ⊢ wp frame (wpE (defs₀ (F := F)) 𝒱₀ ((2 : Dev nD) : Thread nD τ) none) Set.univ body fun _ => ends ob eb x wq wo kk vv 2 := by
  have hmw := mayWaits_outs (F := F)
  have hmw2 := mayWait_outs (F := F)
  refine (leaf_start ob eb x wq wo kk vv κ W 2 3 (by decide)).trans ?_
  rw [show O₀ 2 = debt (outs 2 0) + tallyAt (barCell 3) () 1 from rfl]
  iintro ⟨#Hlev, ⟨⟨#HI, #Hr⟩, Ht⟩, Hl, HO, HR, Hrest⟩
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  unfold body
  sl_exec (disch := decide)
  rw [wp_ret]
  imodintro
  iapply (leaf_ends ob eb x wq wo kk vv 2 _ (by decide) (by decide) (by decide) (by decide))
  unfold eight
  isplitl [HO]
  · iexact HO
  isplitl [A0 A1 A2 A3 A4 A5 A6 A7]
  · iclose
  isplitr [Hrest]
  · sl_close
  · iexact Hrest

set_option maxHeartbeats 4000000 in
theorem leaf5 (κ : Dev nD × Cell → ℕ) (W : Waits sig Unit) :
    begins ob eb x wq wo kk vv κ W 5 ⊢ wp frame (wpE (defs₀ (F := F)) 𝒱₀ ((5 : Dev nD) : Thread nD τ) none) Set.univ body fun _ => ends ob eb x wq wo kk vv 5 := by
  have hmw := mayWaits_outs (F := F)
  have hmw2 := mayWait_outs (F := F)
  refine (leaf_start ob eb x wq wo kk vv κ W 5 4 (by decide)).trans ?_
  rw [show O₀ 5 = debt (outs 5 0) + tallyAt (barCell 4) () 1 from rfl]
  iintro ⟨#Hlev, ⟨⟨#HI, #Hr⟩, Ht⟩, Hl, HO, HR, Hrest⟩
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  unfold body
  sl_exec (disch := decide)
  rw [wp_ret]
  imodintro
  iapply (leaf_ends ob eb x wq wo kk vv 5 _ (by decide) (by decide) (by decide) (by decide))
  unfold eight
  isplitl [HO]
  · iexact HO
  isplitl [A0 A1 A2 A3 A4 A5 A6 A7]
  · iclose
  isplitr [Hrest]
  · sl_close
  · iexact Hrest

set_option maxHeartbeats 4000000 in
theorem leaf6 (κ : Dev nD × Cell → ℕ) (W : Waits sig Unit) :
    begins ob eb x wq wo kk vv κ W 6 ⊢ wp frame (wpE (defs₀ (F := F)) 𝒱₀ ((6 : Dev nD) : Thread nD τ) none) Set.univ body fun _ => ends ob eb x wq wo kk vv 6 := by
  have hmw := mayWaits_outs (F := F)
  have hmw2 := mayWait_outs (F := F)
  refine (leaf_start ob eb x wq wo kk vv κ W 6 7 (by decide)).trans ?_
  rw [show O₀ 6 = debt (outs 6 0) + tallyAt (barCell 7) () 1 from rfl]
  iintro ⟨#Hlev, ⟨⟨#HI, #Hr⟩, Ht⟩, Hl, HO, HR, Hrest⟩
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  unfold body
  sl_exec (disch := decide)
  rw [wp_ret]
  imodintro
  iapply (leaf_ends ob eb x wq wo kk vv 6 _ (by decide) (by decide) (by decide) (by decide))
  unfold eight
  isplitl [HO]
  · iexact HO
  isplitl [A0 A1 A2 A3 A4 A5 A6 A7]
  · iclose
  isplitr [Hrest]
  · sl_close
  · iexact Hrest

end Cert.Tree
end
-- ==== Proof.Edge.lean ====
/-
  Device 1: it sends its first 256 rows of keys and values to device 0 and receives the blocks.
-/
module

public import proofs.«01_k».proof.Proof.Leaf

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

variable (ob : (cc0_stg3_0 : Ref sig .tc).ty.Contents (Elt F)) (eb : (cc0_scratch4 : Ref sig .tc).ty.Contents (Elt F))

attribute [local sl_rounds] duties_tc amount_eq expect_eq dut_bar dut_r dut_s dut_er dut_es amt_r amt_s amt_er amt_es amt_bar
  payload_bar payload_r payload_s payload_er payload_es

theorem mem_edge (i : S2x256x1024.Idx) : (i ∈ edgeR0.set ↔ (i 0).val = 0) ∧ (i ∈ edgeR1.set ↔ (i 0).val ≠ 0) := by
  have i0 : (i 0).val < 2 := (i 0).isLt
  have i1 : (i 1).val < 256 := (i 1).isLt
  have i2 : (i 2).val < 1024 := (i 2).isLt
  constructor <;> rw [Rect.mem_set_unit]
  · refine ⟨fun h => ?_, fun h k => ?_⟩
    · have h0 : 0 ≤ (i 0).val ∧ (i 0).val < 0 + 1 := h 0
      omega
    · fin_cases k
      · show 0 ≤ (i 0).val ∧ (i 0).val < 0 + 1; omega
      · show 0 ≤ (i 1).val ∧ (i 1).val < 0 + 256; omega
      · show 0 ≤ (i 2).val ∧ (i 2).val < 0 + 1024; omega
  · refine ⟨fun h => ?_, fun h k => ?_⟩
    · have h0 : 1 ≤ (i 0).val ∧ (i 0).val < 1 + 1 := h 0
      omega
    · fin_cases k
      · show 1 ≤ (i 0).val ∧ (i 0).val < 1 + 1; omega
      · show 0 ≤ (i 1).val ∧ (i 1).val < 0 + 256; omega
      · show 0 ≤ (i 2).val ∧ (i 2).val < 0 + 1024; omega
theorem edges_disjoint : Disjoint edgeR0.set edgeR1.set :=
  Finset.disjoint_left.mpr fun i hi hi' => (mem_edge i).2.mp hi' ((mem_edge i).1.mp hi)
theorem edges_all : edgeR0.set ∪ edgeR1.set = Finset.univ :=
  Finset.eq_univ_iff_forall.mpr fun i => Finset.mem_union.mpr ((eq_or_ne (i 0).val 0).imp (mem_edge i).1.mpr (mem_edge i).2.mpr)

/-- While device 1 owes the edge rows it may wait for its cells of the lower levels. -/
theorem mayWait_edge (s : SemLoc sig) (h : lvS 1 s < 2) :
    (levAts L lv : sProp 𝕄) ⊢ MayWait ((1 : Dev nD) : Thread nD τ) s () (debt (outs 1 0) + tallyAt (erCell 0) () NE) := by
  have H := mayWait_debt (F := F) 1 s ((0, .dma erS) :: outs 1 0) fun x hx => by
    rcases List.mem_cons.mp hx with rfl | hx
    · exact h
    · rw [outs_lv hx]; exact lv_le 1 s
  rwa [debt, amt_er] at H

theorem lend_0 : (lend (F := F) 0 : sProp 𝕄) ⊢ any 0 eM := by
  unfold lend; rw [if_pos rfl]

/-- Device 1's duties: the signal to device 0, the edge rows' departure and arrival. -/
theorem duties1 : (toks (F := F) 1 : sProp 𝕄) ⊢ iprop(dutyTok ER (barCell 0) 0 1 ∗ dutyTok ER (esCell 1) 0 1 ∗ dutyTok ER (erCell 0) 0 1) := by
  unfold toks rows eight
  iintro ⟨⟨⟨H0, -, H1⟩, -⟩, ⟨⟨-, H2, -⟩, -⟩, -⟩
  iclose

set_option maxHeartbeats 4000000 in
theorem edge (κ : Dev nD × Cell → ℕ) (W : Waits sig Unit) (x wq wo kk vv) (heb : eb = ebOf kk vv) :
    begins ob eb x wq wo kk vv κ W 1 ⊢ wp frame (wpE (defs₀ (F := F)) 𝒱₀ ((1 : Dev nD) : Thread nD τ) none) Set.univ body fun _ => ends ob eb x wq wo kk vv 1 := by
  have hmw := mayWaits_outs (F := F)
  have hmw2 := mayWait_outs (F := F)
  have hmb := mayWait_edge (F := F) (.reg barS) (by decide)
  have hm0 := mayWait_edge (F := F) (lS 0 inb_S2_S1_0) (by decide)
  have hm1 := mayWait_edge (F := F) (lS 1 inb_S2_S1_1) (by decide)
  unfold begins mine atS creds rows
  iintro ⟨#HRec, #Hlev, ⟨⟨Ha0, Hes, Hae⟩, Hp, Hq⟩, Htok, ⟨Hc0, -, Hc⟩, HO, ⟨Hs4, Hs5, Hx, Hwq, Hwo, Hk, Hv, Hkb, Hvb, Hst, ⟨%est, Hest⟩⟩, Ho, ⟨%e, He⟩⟩
  ihave Hl := (lend_o (F := F) 1 (by decide)) $$ Ho
  ihave ⟨#HI1, #Hr⟩ := (rec_bar ob eb κ 0) $$ HRec
  ihave ⟨#HI2, -⟩ := (rec_bar ob eb κ 1) $$ HRec
  ihave ⟨#HI3, #Hr3⟩ := (rec_es ob eb κ 1) $$ HRec
  ihave ⟨#HI4, #Hr4⟩ := (rec_er ob eb κ 0) $$ HRec
  ihave HR := (recvs ob eb κ 1 (by decide)) $$ [Hq Hc]
  · isplitr
    · iexact HRec
    isplitl [Hq] <;> iassumption
  ihave Hg := (duties1 (F := F)) $$ Htok
  icases Hg with ⟨Ht, Hts, Htr⟩
  ihave Hs2 := (pc_two 1 esM esR0 esR1 est halves_disjoint halves_all).1 $$ Hest
  icases Hs2 with ⟨Hest, Hest1⟩
  ihave He2 := (pc_two 1 eM edgeR0 edgeR1 e edges_disjoint edges_all).1 $$ He
  icases He2 with ⟨He, He1⟩
  rw [show O₀ 1 = debt (outs 1 0) + tallyAt (erCell 0) () NE + tallyAt (barCell 0) () 1 from by rw [← amt_er]; rfl, show (dut 1 (.reg barS)).card = 1 from by decide]
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  unfold body
  sl_exec (disch := decide)
  ihave He := (pcs_congr 1 eM edgeR0 (Y := eb) (writes_agree eM.view _ _ edgeR0 _ ?_)) $$ He
  · rw [heb]
    exact (edgeOf_0 _ _).trans (congrArg k0_pay116 (reshape_copy (View.slice esM.view esR0) (View.slice kM.view topR) _ _ _ est kk).symm)
  ihave He1 := (pcs_congr 1 eM edgeR1 (Y := eb) (writes_agree eM.view _ _ edgeR1 _ ?_)) $$ He1
  · rw [heb]
    exact (edgeOf_1 _ _).trans (congrArg k0_pay117 (reshape_copy (View.slice esM.view esR1) (View.slice vM.view topR) _ _ _ est vv).symm)
  ihave He := (pc_two 1 eM edgeR0 edgeR1 eb edges_disjoint edges_all).2 $$ [He He1]
  · isplitl [He] <;> iassumption
  ihave Hd := (lend_0 (F := F)) $$ Ha0_pay1
  icases Hd with ⟨%f, Hd⟩
  unfold pc
  sl_exec (disch := decide)
  rw [wp_ret]
  imodintro
  unfold ends mine rows
  isplitl [HO]
  · iexists _
    iexact HO
  isplitl [Ha0 Hes Hae Hp A0 A1 A2 A3 A4 A5 A6 A7]
  · isplitl [Ha0 Hes Hae]
    · isplitl [Ha0]
      · iapply (spent_1 ob eb _) $$ Ha0
      isplitl [Hes]
      · iapply (spent_1 ob eb _) $$ Hes
      · iapply (spent_0 ob eb 1 _ (by decide)) $$ Hae
    isplitl [Hp]
    · iapply (spent_s ob eb 1 (fun _ => 0) fun n j => .inr ⟨rfl, by revert n j; decide⟩)
      unfold eight
      iexact Hp
    · iapply (spent_r ob eb 1 1 fun _ => .inl rfl)
      unfold eight
      iclose
  isplitl [Hs4 Hs5 Hx Hwq Hwo Hk Hv Hkb Hvb Hst Hest Hest1]
  · ihave Hest := (two_any 1 esM esR0 esR1 _ _ halves_disjoint halves_all) $$ [Hest Hest1]
    · isplitl [Hest] <;> iassumption
    iclose
  isplitr [Hes_pay1]
  · iapply (join1 ob 1)
    iapply (eight_mono (arrived_lent ob 1))
    unfold eight
    sl_close
  · iexists _
    iexact Hes_pay1

end Cert.Tree
end
-- ==== Proof.Fwd.lean ====
/-
  The devices that pass the blocks on: 3 to 2, 7 to 6, and 4 to 7 and 5.
-/
module

public import proofs.«01_k».proof.Proof.Leaf

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

variable (ob : (cc0_stg3_0 : Ref sig .tc).ty.Contents (Elt F)) (eb : (cc0_scratch4 : Ref sig .tc).ty.Contents (Elt F))

attribute [local sl_rounds] duties_tc amount_eq expect_eq dut_bar dut_r dut_s dut_er dut_es amt_r amt_s amt_er amt_es amt_bar
  payload_bar payload_r payload_s payload_er payload_es

/-- What a device with one child owes from block `n` on. -/
theorem outs_one (d k : Dev nD) (hk : kids d = [k]) (n : ℕ) (h : n < 8) :
    debt (outs d n) = debt (outs d (n + 1)) + tallyAt (rCell k ⟨n, h⟩) () N := by
  have e : outs d n = (k, .dma (rS ⟨n, h⟩)) :: outs d (n + 1) := by
    unfold outs
    rw [hk]
    interval_cases n <;> rfl
  rw [e]
  simp only [debt, amt_r]

/-- What device `d` needs to send block `n` to its child `k` of place `j`, but the memory. -/
abbrev sendG (κ : Dev nD × Cell → ℕ) (d k : Dev nD) (j : Fin 3) (n : Fin 8) : sProp 𝕄 :=
  iprop((cellInv ER (Rd ob eb) (κ (d, cS n j)) (sCell d n j) ∗ reached ER (sCell d n j) 0)
    ∗ (cellInv ER (Rd ob eb) (κ (k, cR n)) (rCell k n) ∗ reached ER (rCell k n) 0)
    ∗ dutyTok ER (sCell d n j) 0 d ∗ dutyTok ER (rCell k n) 0 d)

theorem sends (κ : Dev nD × Cell → ℕ) (d k : Dev nD) (j : Fin 3) :
    iprop(records ob eb κ ∗ eight (fun n => dutyTok ER (sCell d n j) 0 d) ∗ eight fun n => dutyTok ER (rCell k n) 0 d) ⊢ (eight (sendG ob eb κ d k j) : sProp 𝕄) := by
  iintro ⟨#HR, Hs, Hr⟩
  iapply (eight_sep _ _)
  isplitr
  · iapply (eight_all fun n => rec_s ob eb κ d n j) $$ HR
  iapply (eight_sep _ _)
  isplitr
  · iapply (eight_all fun n => rec_r ob eb κ k n) $$ HR
  iapply (eight_sep _ _)
  isplitl [Hs] <;> iassumption

/-- The departure cells of a device whose copies are over. -/
theorem spent_to (d : Dev nD) (r : ℕ) (h : ∀ n j, (![1, r, 0] j = 1) ∨ (![1, r, 0] j = 0 ∧ dut d (.dma (sS n j)) = ∅)) :
    eight (fun n => iprop(atPos ER (sCell d n 0) 1 ∅ 0 ∗ atPos ER (sCell d n 1) r ∅ 0 ∗ atPos ER (sCell d n 2) 0 ∅ 0))
      ⊢ eight fun n => iprop(spent ob eb (sCell d n 0) ∗ spent ob eb (sCell d n 1) ∗ spent ob eb (sCell d n 2)) :=
  spent_s ob eb d ![1, r, 0] h

/-- The tokens of a device's duties on device `k`'s cells. -/
theorem toks_split (d : Dev nD) : (toks (F := F) d : sProp 𝕄) ⊢ eight fun k : Dev nD =>
    iprop(dutyTok ER (barCell k) 0 d ∗ (eight (fun n => dutyTok ER (sCell k n 0) 0 d) ∗ eight (fun n => dutyTok ER (sCell k n 1) 0 d))
      ∗ eight fun n => dutyTok ER (rCell k n) 0 d) := by
  unfold toks
  refine eight_mono fun k => ?_
  unfold rows
  iintro ⟨⟨H, -⟩, Hs, Hr⟩
  isplitl [H]
  · iexact H
  isplitr [Hr]
  · unfold eight
    icases Hs with ⟨⟨a0, b0, -⟩, ⟨a1, b1, -⟩, ⟨a2, b2, -⟩, ⟨a3, b3, -⟩, ⟨a4, b4, -⟩, ⟨a5, b5, -⟩, ⟨a6, b6, -⟩, ⟨a7, b7, -⟩⟩
    iclose
  · iexact Hr

theorem duties3 : (toks (F := F) 3 : sProp 𝕄) ⊢ iprop(dutyTok ER (barCell 0) 0 3 ∗ eight (fun n => dutyTok ER (sCell 3 n 0) 0 3) ∗ eight fun n => dutyTok ER (rCell 2 n) 0 3) := by
  refine (toks_split 3).trans ?_
  rw [eight]
  iintro ⟨⟨H0, -⟩, -, ⟨-, -, H2⟩, ⟨-, ⟨H1, -⟩, -⟩, -⟩
  iclose

theorem duties7 : (toks (F := F) 7 : sProp 𝕄) ⊢ iprop(dutyTok ER (barCell 4) 0 7 ∗ eight (fun n => dutyTok ER (sCell 7 n 0) 0 7) ∗ eight fun n => dutyTok ER (rCell 6 n) 0 7) := by
  refine (toks_split 7).trans ?_
  rw [eight]
  iintro ⟨-, -, -, -, ⟨H0, -⟩, -, ⟨-, -, H2⟩, -, ⟨H1, -⟩, -⟩
  iclose

/-- What a device with one child starts from. -/
theorem fwd_start (κ : Dev nD × Cell → ℕ) (W : Waits sig Unit) (x wq wo kk vv) (d s k : Dev nD) (hd : d ≠ 0)
    (ht : (toks (F := F) d : sProp 𝕄) ⊢ iprop(dutyTok ER (barCell s) 0 d ∗ eight (fun n => dutyTok ER (sCell d n 0) 0 d) ∗ eight fun n => dutyTok ER (rCell k n) 0 d)) :
    begins ob eb x wq wo kk vv κ W d ⊢
      iprop(levAts L lv ∗ entry ob eb κ d s ∗ lend d ∗ owes d (O₀ d) W
        ∗ (cellInv ER (Rd ob eb) (κ (d, .inl 0)) (barCell d) ∗ atPos ER (barCell d) 0 ∅ 0 ∗ cred (tallyAt (barCell d) () (dut d (.reg barS)).card))
        ∗ eight (recvG ob eb κ d) ∗ eight (sendG ob eb κ d k 0)
        ∗ eight (fun n => iprop(atPos ER (sCell d n 0) 0 ∅ 0 ∗ atPos ER (sCell d n 1) 0 ∅ 0 ∗ atPos ER (sCell d n 2) 0 ∅ 0))
        ∗ atPos ER (esCell d) 0 ∅ 0 ∗ atPos ER (erCell d) 0 ∅ 0 ∗ mine x wq wo kk vv d ∗ any d eM) := by
  unfold begins atS creds rows
  iintro ⟨#HRec, #Hlev, ⟨⟨Ha, Hes, Hae⟩, Hp, Hq⟩, Htok, ⟨Hcb, -, Hc⟩, HO, Hm, Ho, He⟩
  ihave Hl := (lend_o (F := F) d hd) $$ Ho
  ihave Ht := ht $$ Htok
  icases Ht with ⟨Ht, Hts, Htr⟩
  ihave ⟨#HI, #Hr⟩ := (rec_bar ob eb κ s) $$ HRec
  ihave ⟨#HI', -⟩ := (rec_bar ob eb κ d) $$ HRec
  ihave HR := (recvs ob eb κ d hd) $$ [Hq Hc]
  · isplitr
    · iexact HRec
    isplitl [Hq] <;> iassumption
  ihave HS := (sends ob eb κ d k 0) $$ [Hts Htr]
  · isplitr
    · iexact HRec
    isplitl [Hts] <;> iassumption
  iclose

variable (x : (cc0_stg0_0 : Ref sig .tc).ty.Contents (Elt F)) (wq : (cc0_stg1_0 : Ref sig .tc).ty.Contents (Elt F))
  (wo : (cc0_stg2_0 : Ref sig .tc).ty.Contents (Elt F)) (kk : (main_arg2 : Ref sig .tc).ty.Contents (Elt F))
  (vv : (main_arg3 : Ref sig .tc).ty.Contents (Elt F))

set_option maxHeartbeats 4000000 in
theorem fwd3 (κ : Dev nD × Cell → ℕ) (W : Waits sig Unit) :
    begins ob eb x wq wo kk vv κ W 3 ⊢ wp frame (wpE (defs₀ (F := F)) 𝒱₀ ((3 : Dev nD) : Thread nD τ) none) Set.univ body fun _ => ends ob eb x wq wo kk vv 3 := by
  have hmw := mayWaits_outs (F := F)
  have hmw2 := mayWait_outs (F := F)
  refine (fwd_start ob eb κ W x wq wo kk vv 3 0 2 (by decide) duties3).trans ?_
  rw [show O₀ 3 = debt (outs 3 0) + tallyAt (barCell 0) () 1 from rfl, show (dut 3 (.reg barS)).card = 1 from by decide]
  iintro ⟨#Hlev, ⟨⟨#HI, #Hr⟩, Ht⟩, Hl, HO, ⟨#HIb, Ha, Hcb⟩, HR, HS, Hp, Hes, Hae, Hm, He⟩
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  icases Hp with ⟨⟨P0, P0'⟩, ⟨P1, P1'⟩, ⟨P2, P2'⟩, ⟨P3, P3'⟩, ⟨P4, P4'⟩, ⟨P5, P5'⟩, ⟨P6, P6'⟩, ⟨P7, P7'⟩⟩
  icases HS with ⟨⟨⟨#I0, #R0⟩, ⟨#K0, #S0⟩, T0, U0⟩, ⟨⟨#I1, #R1⟩, ⟨#K1, #S1⟩, T1, U1⟩, ⟨⟨#I2, #R2⟩, ⟨#K2, #S2⟩, T2, U2⟩, ⟨⟨#I3, #R3⟩, ⟨#K3, #S3⟩, T3, U3⟩, ⟨⟨#I4, #R4⟩, ⟨#K4, #S4⟩, T4, U4⟩, ⟨⟨#I5, #R5⟩, ⟨#K5, #S5⟩, T5, U5⟩, ⟨⟨#I6, #R6⟩, ⟨#K6, #S6⟩, T6, U6⟩, ⟨⟨#I7, #R7⟩, ⟨#K7, #S7⟩, T7, U7⟩⟩
  unfold body
  sl_exec (disch := decide)
  ihave Hd := (lend_blocks (F := F) 2 (by decide)) $$ Ha_pay1
  unfold eight
  icases Hd with ⟨⟨%f0, D0⟩, ⟨%f1, D1⟩, ⟨%f2, D2⟩, ⟨%f3, D3⟩, ⟨%f4, D4⟩, ⟨%f5, D5⟩, ⟨%f6, D6⟩, ⟨%f7, D7⟩⟩
  ihave B0 := (arrived_one ob 3 0 _) $$ A0_pay1
  unfold lent
  rw [outs_one 3 2 rfl 0 (by decide)]
  sl_exec (disch := decide)
  ihave B1 := (arrived_one ob 3 1 _) $$ A1_pay1
  unfold lent
  rw [outs_one 3 2 rfl 1 (by decide)]
  sl_exec (disch := decide)
  ihave B2 := (arrived_one ob 3 2 _) $$ A2_pay1
  unfold lent
  rw [outs_one 3 2 rfl 2 (by decide)]
  sl_exec (disch := decide)
  ihave B3 := (arrived_one ob 3 3 _) $$ A3_pay1
  unfold lent
  rw [outs_one 3 2 rfl 3 (by decide)]
  sl_exec (disch := decide)
  ihave B4 := (arrived_one ob 3 4 _) $$ A4_pay1
  unfold lent
  rw [outs_one 3 2 rfl 4 (by decide)]
  sl_exec (disch := decide)
  ihave B5 := (arrived_one ob 3 5 _) $$ A5_pay1
  unfold lent
  rw [outs_one 3 2 rfl 5 (by decide)]
  sl_exec (disch := decide)
  ihave B6 := (arrived_one ob 3 6 _) $$ A6_pay1
  unfold lent
  rw [outs_one 3 2 rfl 6 (by decide)]
  sl_exec (disch := decide)
  ihave B7 := (arrived_one ob 3 7 _) $$ A7_pay1
  unfold lent
  rw [outs_one 3 2 rfl 7 (by decide)]
  sl_exec (disch := decide)
  rw [wp_ret]
  imodintro
  unfold ends rows
  isplitl [HO]
  · iexists _
    iexact HO
  isplitl [Ha Hes Hae P0 P0' P1 P1' P2 P2' P3 P3' P4 P4' P5 P5' P6 P6' P7 P7' A0 A1 A2 A3 A4 A5 A6 A7]
  · isplitl [Ha Hes Hae]
    · isplitl [Ha]
      · iapply (spent_1 ob eb _) $$ Ha
      isplitl [Hes]
      · iapply (spent_0 ob eb 3 _ (by decide)) $$ Hes
      · iapply (spent_0 ob eb 3 _ (by decide)) $$ Hae
    isplitl [P0 P0' P1 P1' P2 P2' P3 P3' P4 P4' P5 P5' P6 P6' P7 P7']
    · iapply (spent_to ob eb 3 0 (by decide))
      unfold eight
      iclose
    · iapply (spent_r ob eb 3 1 fun _ => .inl rfl)
      unfold eight
      iclose
  isplitl [Hm]
  · iexact Hm
  isplitr [He]
  · iapply (join1 ob 3)
    unfold eight lent
    iclose
  · iexact He

set_option maxHeartbeats 4000000 in
theorem fwd7 (κ : Dev nD × Cell → ℕ) (W : Waits sig Unit) :
    begins ob eb x wq wo kk vv κ W 7 ⊢ wp frame (wpE (defs₀ (F := F)) 𝒱₀ ((7 : Dev nD) : Thread nD τ) none) Set.univ body fun _ => ends ob eb x wq wo kk vv 7 := by
  have hmw := mayWaits_outs (F := F)
  have hmw2 := mayWait_outs (F := F)
  refine (fwd_start ob eb κ W x wq wo kk vv 7 4 6 (by decide) duties7).trans ?_
  rw [show O₀ 7 = debt (outs 7 0) + tallyAt (barCell 4) () 1 from rfl, show (dut 7 (.reg barS)).card = 1 from by decide]
  iintro ⟨#Hlev, ⟨⟨#HI, #Hr⟩, Ht⟩, Hl, HO, ⟨#HIb, Ha, Hcb⟩, HR, HS, Hp, Hes, Hae, Hm, He⟩
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  icases Hp with ⟨⟨P0, P0'⟩, ⟨P1, P1'⟩, ⟨P2, P2'⟩, ⟨P3, P3'⟩, ⟨P4, P4'⟩, ⟨P5, P5'⟩, ⟨P6, P6'⟩, ⟨P7, P7'⟩⟩
  icases HS with ⟨⟨⟨#I0, #R0⟩, ⟨#K0, #S0⟩, T0, U0⟩, ⟨⟨#I1, #R1⟩, ⟨#K1, #S1⟩, T1, U1⟩, ⟨⟨#I2, #R2⟩, ⟨#K2, #S2⟩, T2, U2⟩, ⟨⟨#I3, #R3⟩, ⟨#K3, #S3⟩, T3, U3⟩, ⟨⟨#I4, #R4⟩, ⟨#K4, #S4⟩, T4, U4⟩, ⟨⟨#I5, #R5⟩, ⟨#K5, #S5⟩, T5, U5⟩, ⟨⟨#I6, #R6⟩, ⟨#K6, #S6⟩, T6, U6⟩, ⟨⟨#I7, #R7⟩, ⟨#K7, #S7⟩, T7, U7⟩⟩
  unfold body
  sl_exec (disch := decide)
  ihave Hd := (lend_blocks (F := F) 6 (by decide)) $$ Ha_pay1
  unfold eight
  icases Hd with ⟨⟨%f0, D0⟩, ⟨%f1, D1⟩, ⟨%f2, D2⟩, ⟨%f3, D3⟩, ⟨%f4, D4⟩, ⟨%f5, D5⟩, ⟨%f6, D6⟩, ⟨%f7, D7⟩⟩
  ihave B0 := (arrived_one ob 7 0 _) $$ A0_pay1
  unfold lent
  rw [outs_one 7 6 rfl 0 (by decide)]
  sl_exec (disch := decide)
  ihave B1 := (arrived_one ob 7 1 _) $$ A1_pay1
  unfold lent
  rw [outs_one 7 6 rfl 1 (by decide)]
  sl_exec (disch := decide)
  ihave B2 := (arrived_one ob 7 2 _) $$ A2_pay1
  unfold lent
  rw [outs_one 7 6 rfl 2 (by decide)]
  sl_exec (disch := decide)
  ihave B3 := (arrived_one ob 7 3 _) $$ A3_pay1
  unfold lent
  rw [outs_one 7 6 rfl 3 (by decide)]
  sl_exec (disch := decide)
  ihave B4 := (arrived_one ob 7 4 _) $$ A4_pay1
  unfold lent
  rw [outs_one 7 6 rfl 4 (by decide)]
  sl_exec (disch := decide)
  ihave B5 := (arrived_one ob 7 5 _) $$ A5_pay1
  unfold lent
  rw [outs_one 7 6 rfl 5 (by decide)]
  sl_exec (disch := decide)
  ihave B6 := (arrived_one ob 7 6 _) $$ A6_pay1
  unfold lent
  rw [outs_one 7 6 rfl 6 (by decide)]
  sl_exec (disch := decide)
  ihave B7 := (arrived_one ob 7 7 _) $$ A7_pay1
  unfold lent
  rw [outs_one 7 6 rfl 7 (by decide)]
  sl_exec (disch := decide)
  rw [wp_ret]
  imodintro
  unfold ends rows
  isplitl [HO]
  · iexists _
    iexact HO
  isplitl [Ha Hes Hae P0 P0' P1 P1' P2 P2' P3 P3' P4 P4' P5 P5' P6 P6' P7 P7' A0 A1 A2 A3 A4 A5 A6 A7]
  · isplitl [Ha Hes Hae]
    · isplitl [Ha]
      · iapply (spent_1 ob eb _) $$ Ha
      isplitl [Hes]
      · iapply (spent_0 ob eb 7 _ (by decide)) $$ Hes
      · iapply (spent_0 ob eb 7 _ (by decide)) $$ Hae
    isplitl [P0 P0' P1 P1' P2 P2' P3 P3' P4 P4' P5 P5' P6 P6' P7 P7']
    · iapply (spent_to ob eb 7 0 (by decide))
      unfold eight
      iclose
    · iapply (spent_r ob eb 7 1 fun _ => .inl rfl)
      unfold eight
      iclose
  isplitl [Hm]
  · iexact Hm
  isplitr [He]
  · iapply (join1 ob 7)
    unfold eight lent
    iclose
  · iexact He

theorem lend2 : (iprop(lend (F := F) 5 ∗ lend (F := F) 7) : sProp 𝕄) ⊢ iprop(eight (dst 5) ∗ eight (dst 7)) :=
  BI.sep_mono (lend_blocks 5 (by decide)) (lend_blocks 7 (by decide))

/-- What device 4 owes from block `n` on. -/
theorem outs4 (n : ℕ) (h : n < 8) :
    debt (outs 4 n) = debt (outs 4 (n + 1)) + tallyAt (rCell 5 ⟨n, h⟩) () N + tallyAt (rCell 7 ⟨n, h⟩) () N := by
  have e : outs 4 n = [(7, .dma (rS ⟨n, h⟩)), (5, .dma (rS ⟨n, h⟩))] ++ outs 4 (n + 1) := by
    interval_cases n <;> rfl
  rw [e]
  simp only [List.cons_append, List.nil_append, debt, amt_r]

/-- An arrived block in the two shares device 4 lends. -/
theorem arrived_two (d : Dev nD) (n : Fin 8) (f : (blk n).view.ty.Contents (Elt F)) :
    ((blk n).view.loc (d : Thread nD τ) ↦[(blk n).view.set]{fullShare} (blk n).view.write (Elt F) f ((blk n).view.read (Elt F) ob) Finset.univ : sProp 𝕄)
      ⊢ iprop(lent ob fullShare.left d n ∗ lent ob fullShare.right d n) :=
  (arrived_one ob d n f).trans (pointsTo_share (PosShare.mem_left_op_right fullShare)).1

theorem duties4 : (toks (F := F) 4 : sProp 𝕄) ⊢ iprop(dutyTok ER (barCell 0) 0 4
    ∗ (eight (fun n => dutyTok ER (sCell 4 n 0) 0 4) ∗ eight fun n => dutyTok ER (rCell 7 n) 0 4)
    ∗ eight (fun n => dutyTok ER (sCell 4 n 1) 0 4) ∗ eight fun n => dutyTok ER (rCell 5 n) 0 4) := by
  refine (toks_split 4).trans ?_
  rw [eight]
  iintro ⟨⟨H0, -⟩, -, -, -, ⟨-, ⟨H1, H1'⟩, -⟩, ⟨-, -, H2'⟩, -, ⟨-, -, H2⟩⟩
  iclose

theorem fwd_start4 (κ : Dev nD × Cell → ℕ) (W : Waits sig Unit) :
    begins ob eb x wq wo kk vv κ W 4 ⊢
      iprop(levAts L lv ∗ entry ob eb κ 4 0 ∗ lend 4 ∗ owes (4 : Dev nD) (O₀ 4) W
        ∗ (cellInv ER (Rd ob eb) (κ (4, .inl 0)) (barCell 4) ∗ atPos ER (barCell 4) 0 ∅ 0 ∗ cred (tallyAt (barCell 4) () (dut 4 (.reg barS)).card))
        ∗ eight (recvG ob eb κ 4) ∗ eight (sendG ob eb κ 4 7 0) ∗ eight (sendG ob eb κ 4 5 1)
        ∗ eight (fun n => iprop(atPos ER (sCell 4 n 0) 0 ∅ 0 ∗ atPos ER (sCell 4 n 1) 0 ∅ 0 ∗ atPos ER (sCell 4 n 2) 0 ∅ 0))
        ∗ atPos ER (esCell 4) 0 ∅ 0 ∗ atPos ER (erCell 4) 0 ∅ 0 ∗ mine x wq wo kk vv 4 ∗ any 4 eM) := by
  unfold begins atS creds rows
  iintro ⟨#HRec, #Hlev, ⟨⟨Ha, Hes, Hae⟩, Hp, Hq⟩, Htok, ⟨Hcb, -, Hc⟩, HO, Hm, Ho, He⟩
  ihave Hl := (lend_o (F := F) 4 (by decide)) $$ Ho
  ihave Ht := (duties4 (F := F)) $$ Htok
  icases Ht with ⟨Ht, ⟨Hts, Htr⟩, ⟨Hts', Htr'⟩⟩
  ihave ⟨#HI, #Hr⟩ := (rec_bar ob eb κ 0) $$ HRec
  ihave ⟨#HI', -⟩ := (rec_bar ob eb κ 4) $$ HRec
  ihave HR := (recvs ob eb κ 4 (by decide)) $$ [Hq Hc]
  · isplitr
    · iexact HRec
    isplitl [Hq] <;> iassumption
  ihave HS := (sends ob eb κ 4 7 0) $$ [Hts Htr]
  · isplitr
    · iexact HRec
    isplitl [Hts] <;> iassumption
  ihave HS' := (sends ob eb κ 4 5 1) $$ [Hts' Htr']
  · isplitr
    · iexact HRec
    isplitl [Hts'] <;> iassumption
  iclose

set_option maxHeartbeats 4000000 in
theorem fwd4 (κ : Dev nD × Cell → ℕ) (W : Waits sig Unit) :
    begins ob eb x wq wo kk vv κ W 4 ⊢ wp frame (wpE (defs₀ (F := F)) 𝒱₀ ((4 : Dev nD) : Thread nD τ) none) Set.univ body fun _ => ends ob eb x wq wo kk vv 4 := by
  have hmw := mayWaits_outs (F := F)
  have hmw2 := mayWait_outs (F := F)
  refine (fwd_start4 ob eb x wq wo kk vv κ W).trans ?_
  rw [show O₀ 4 = debt (outs 4 0) + tallyAt (barCell 0) () 1 from rfl, show (dut 4 (.reg barS)).card = 2 from by decide]
  iintro ⟨#Hlev, ⟨⟨#HI, #Hr⟩, Ht⟩, Hl, HO, ⟨#HIb, Ha, Hcb⟩, HR, HS, HS', Hp, Hes, Hae, Hm, He⟩
  unfold eight
  icases HR with ⟨⟨⟨#J0, #Q0⟩, A0, C0⟩, ⟨⟨#J1, #Q1⟩, A1, C1⟩, ⟨⟨#J2, #Q2⟩, A2, C2⟩, ⟨⟨#J3, #Q3⟩, A3, C3⟩, ⟨⟨#J4, #Q4⟩, A4, C4⟩, ⟨⟨#J5, #Q5⟩, A5, C5⟩, ⟨⟨#J6, #Q6⟩, A6, C6⟩, ⟨⟨#J7, #Q7⟩, A7, C7⟩⟩
  icases Hp with ⟨⟨P0, M0, P0'⟩, ⟨P1, M1, P1'⟩, ⟨P2, M2, P2'⟩, ⟨P3, M3, P3'⟩, ⟨P4, M4, P4'⟩, ⟨P5, M5, P5'⟩, ⟨P6, M6, P6'⟩, ⟨P7, M7, P7'⟩⟩
  icases HS with ⟨⟨⟨#I0, #R0⟩, ⟨#K0, #S0⟩, T0, U0⟩, ⟨⟨#I1, #R1⟩, ⟨#K1, #S1⟩, T1, U1⟩, ⟨⟨#I2, #R2⟩, ⟨#K2, #S2⟩, T2, U2⟩, ⟨⟨#I3, #R3⟩, ⟨#K3, #S3⟩, T3, U3⟩, ⟨⟨#I4, #R4⟩, ⟨#K4, #S4⟩, T4, U4⟩, ⟨⟨#I5, #R5⟩, ⟨#K5, #S5⟩, T5, U5⟩, ⟨⟨#I6, #R6⟩, ⟨#K6, #S6⟩, T6, U6⟩, ⟨⟨#I7, #R7⟩, ⟨#K7, #S7⟩, T7, U7⟩⟩
  icases HS' with ⟨⟨⟨#I0', #R0'⟩, ⟨#K0', #S0'⟩, T0', U0'⟩, ⟨⟨#I1', #R1'⟩, ⟨#K1', #S1'⟩, T1', U1'⟩, ⟨⟨#I2', #R2'⟩, ⟨#K2', #S2'⟩, T2', U2'⟩, ⟨⟨#I3', #R3'⟩, ⟨#K3', #S3'⟩, T3', U3'⟩, ⟨⟨#I4', #R4'⟩, ⟨#K4', #S4'⟩, T4', U4'⟩, ⟨⟨#I5', #R5'⟩, ⟨#K5', #S5'⟩, T5', U5'⟩, ⟨⟨#I6', #R6'⟩, ⟨#K6', #S6'⟩, T6', U6'⟩, ⟨⟨#I7', #R7'⟩, ⟨#K7', #S7'⟩, T7', U7'⟩⟩
  unfold body
  sl_exec (disch := decide)
  ihave H := (lend2 (F := F)) $$ Ha_pay1
  icases H with ⟨Hd, Hd'⟩
  unfold eight
  icases Hd with ⟨⟨%f0, D0⟩, ⟨%f1, D1⟩, ⟨%f2, D2⟩, ⟨%f3, D3⟩, ⟨%f4, D4⟩, ⟨%f5, D5⟩, ⟨%f6, D6⟩, ⟨%f7, D7⟩⟩
  icases Hd' with ⟨⟨%g0, E0⟩, ⟨%g1, E1⟩, ⟨%g2, E2⟩, ⟨%g3, E3⟩, ⟨%g4, E4⟩, ⟨%g5, E5⟩, ⟨%g6, E6⟩, ⟨%g7, E7⟩⟩
  ihave ⟨B0, X0⟩ := (arrived_two ob 4 0 _) $$ A0_pay1
  unfold lent
  rw [outs4 0 (by decide)]
  sl_exec (disch := decide)
  ihave ⟨B1, X1⟩ := (arrived_two ob 4 1 _) $$ A1_pay1
  unfold lent
  rw [outs4 1 (by decide)]
  sl_exec (disch := decide)
  ihave ⟨B2, X2⟩ := (arrived_two ob 4 2 _) $$ A2_pay1
  unfold lent
  rw [outs4 2 (by decide)]
  sl_exec (disch := decide)
  ihave ⟨B3, X3⟩ := (arrived_two ob 4 3 _) $$ A3_pay1
  unfold lent
  rw [outs4 3 (by decide)]
  sl_exec (disch := decide)
  ihave ⟨B4, X4⟩ := (arrived_two ob 4 4 _) $$ A4_pay1
  unfold lent
  rw [outs4 4 (by decide)]
  sl_exec (disch := decide)
  ihave ⟨B5, X5⟩ := (arrived_two ob 4 5 _) $$ A5_pay1
  unfold lent
  rw [outs4 5 (by decide)]
  sl_exec (disch := decide)
  ihave ⟨B6, X6⟩ := (arrived_two ob 4 6 _) $$ A6_pay1
  unfold lent
  rw [outs4 6 (by decide)]
  sl_exec (disch := decide)
  ihave ⟨B7, X7⟩ := (arrived_two ob 4 7 _) $$ A7_pay1
  unfold lent
  rw [outs4 7 (by decide)]
  sl_exec (disch := decide)
  rw [wp_ret]
  imodintro
  unfold ends rows
  isplitl [HO]
  · iexists _
    iexact HO
  isplitl [Ha Hes Hae P0 M0 P0' P1 M1 P1' P2 M2 P2' P3 M3 P3' P4 M4 P4' P5 M5 P5' P6 M6 P6' P7 M7 P7' A0 A1 A2 A3 A4 A5 A6 A7]
  · isplitl [Ha Hes Hae]
    · isplitl [Ha]
      · iapply (spent_1 ob eb _) $$ Ha
      isplitl [Hes]
      · iapply (spent_0 ob eb 4 _ (by decide)) $$ Hes
      · iapply (spent_0 ob eb 4 _ (by decide)) $$ Hae
    isplitl [P0 M0 P0' P1 M1 P1' P2 M2 P2' P3 M3 P3' P4 M4 P4' P5 M5 P5' P6 M6 P6' P7 M7 P7']
    · iapply (spent_to ob eb 4 1 (by decide))
      unfold eight
      iclose
    · iapply (spent_r ob eb 4 1 fun _ => .inl rfl)
      unfold eight
      iclose
  isplitl [Hm]
  · iexact Hm
  isplitr [He]
  · iapply (join2 ob 4)
    unfold eight lent
    iclose
  · iexact He

end Cert.Tree
end
-- ==== Proof.Deal.lean ====
/-
  The launch: the ghost state dealt to the devices, and the semaphores it is made of.
-/
module

public import proofs.«01_k».proof.Proof.Ghost
public import proofs.«01_k».proof.Proof.Gen.KernelIdeal.Launch
public import Idealize.ShloMosaic.Lib.Pipeline.CollectiveSegs
public import Idealize.ShloMosaic.Lib.Pipeline.Quiescent

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]
local notation "𝕄" => MT nD τ sig Unit (Elt F) ℕ UU ℕ

variable (ob : (cc0_stg3_0 : Ref sig .tc).ty.Contents (Elt F)) (eb : (cc0_scratch4 : Ref sig .tc).ty.Contents (Elt F))

/-! ## Semaphores -/

/-- The kernel's own semaphores: the local copies', and all its cells but the barrier. -/
def osem : Fin 36 → SemLoc sig := fun i => .dma ⟨i.val + 4, by have := i.isLt; show _ < 40; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), lS 0 inb_S2_S1_0) 0 ∗ semVal ((c : Thread nD τ), lS 1 inb_S2_S1_1) 0 ∗ semVal (esCell c) 0 ∗ semVal (erCell c) 0
      ∗ semVal (sCell c 0 0) 0 ∗ semVal (sCell c 0 1) 0 ∗ semVal (sCell c 0 2) 0 ∗ semVal (sCell c 1 0) 0 ∗ semVal (sCell c 1 1) 0 ∗ semVal (sCell c 1 2) 0
      ∗ semVal (sCell c 2 0) 0 ∗ semVal (sCell c 2 1) 0 ∗ semVal (sCell c 2 2) 0 ∗ semVal (sCell c 3 0) 0 ∗ semVal (sCell c 3 1) 0 ∗ semVal (sCell c 3 2) 0
      ∗ semVal (sCell c 4 0) 0 ∗ semVal (sCell c 4 1) 0 ∗ semVal (sCell c 4 2) 0 ∗ semVal (sCell c 5 0) 0 ∗ semVal (sCell c 5 1) 0 ∗ semVal (sCell c 5 2) 0
      ∗ semVal (sCell c 6 0) 0 ∗ semVal (sCell c 6 1) 0 ∗ semVal (sCell c 6 2) 0 ∗ semVal (sCell c 7 0) 0 ∗ semVal (sCell c 7 1) 0 ∗ semVal (sCell c 7 2) 0
      ∗ semVal (rCell c 0) 0 ∗ semVal (rCell c 1) 0 ∗ semVal (rCell c 2) 0 ∗ semVal (rCell c 3) 0 ∗ semVal (rCell c 4) 0 ∗ semVal (rCell c 5) 0 ∗ semVal (rCell c 6) 0 ∗ semVal (rCell c 7) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The two semaphores of the local copies. -/
abbrev lsems (c : Dev nD) : sProp 𝕄 :=
  iprop(semVal ((c : Thread nD τ), lS 0 inb_S2_S1_0) 0 ∗ semVal ((c : Thread nD τ), lS 1 inb_S2_S1_1) 0)

theorem sems_in (c : Dev nD) :
    iprop(Pipeline.ownSems0 (Ix := Unit) (Name := ℕ) (U := UU) (Lvl := ℕ) (Val := Elt F) (τ := τ) osem c ∗ unscopedSems0 c)
      ⊢ iprop(lsems c ∗ rows (fun g => (semVal g 0 : sProp 𝕄)) c) := by
  rw [ownSems0_eq, unscopedSems0_eq]
  unfold rows eight
  beta_reduce
  iintro ⟨⟨l0, l1, es, er, s00, s01, s02, s10, s11, s12, s20, s21, s22, s30, s31, s32, s40, s41, s42, s50, s51, s52, s60, s61, s62, s70, s71, s72, r0, r1, r2, r3, r4, r5, r6, r7⟩, b⟩
  iclose

theorem sems_out (c : Dev nD) :
    iprop(lsems c ∗ rows (fun g => (semVal g 0 : sProp 𝕄)) c)
      ⊢ iprop(unscopedSems0 c ∗ Pipeline.ownSems0 (Ix := Unit) (Name := ℕ) (U := UU) (Lvl := ℕ) (Val := Elt F) (τ := τ) osem c) := by
  rw [ownSems0_eq, unscopedSems0_eq]
  unfold rows eight
  beta_reduce
  iintro ⟨⟨l0, l1⟩, ⟨b, es, er⟩, ⟨⟨s00, s01, s02⟩, ⟨s10, s11, s12⟩, ⟨s20, s21, s22⟩, ⟨s30, s31, s32⟩, ⟨s40, s41, s42⟩, ⟨s50, s51, s52⟩, ⟨s60, s61, s62⟩, ⟨s70, s71, s72⟩⟩, r0, r1, r2, r3, r4, r5, r6, r7⟩
  iclose

/-! ## The ghost state -/

theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  have h3 : ∀ k k' : Cell, csem k = csem k' → k = k' := by decide
  rw [h1, h3 k k' h2]
def kcells : Finset (GSem nD τ sig) := Finset.univ.map ⟨kcell, kcell_injective⟩

/-- The duty tokens: of every cell, one for each device. -/
abbrev tokOf (x : (Dev nD × Cell) × Dev nD) : GSem nD τ sig × ℕ × Dev nD := (kcell x.1, 0, x.2)
theorem tokOf_injective : Function.Injective tokOf := by
  rintro ⟨c, k⟩ ⟨c', k'⟩ h
  have h1 : c = c' := kcell_injective (congrArg Prod.fst h)
  have h2 : k = k' := congrArg (fun y : GSem nD τ sig × ℕ × Dev nD => y.2.2) h
  rw [h1, h2]
def ktoks : Finset (GSem nD τ sig × ℕ × Dev nD) := Finset.univ.map ⟨tokOf, tokOf_injective⟩

def u₀ : UU :=
  (initOf (Pipeline.cells cfgs cellOf_inj) (Pipeline.launchToks cfgs cellOf_inj), (initOf kcells ktoks, 1))

theorem ownU_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch deals device `d`: its cells' states and positions, and their tokens. -/
def G (d : Dev nD) : sProp 𝕄 :=
  iprop(rows (fun g => roundState ER (Rd ob eb) g 0) d ∗ rows (fun g => iprop(atPos ER g 0 ∅ 0 ∗ reached ER g 0)) d
    ∗ rows (fun g => bigSep Finset.univ fun k : Dev nD => dutyTok ER g 0 k) d)

theorem kcells_eq (Φ : GSem nD τ sig → sProp 𝕄) : bigSep kcells Φ = bigSep Finset.univ (rows Φ) := by
  unfold kcells; rw [bigSep_map, bigSep_univ_prod]
  exact bigSep_congr fun d _ => rows_eq Φ d

theorem ktoks_eq : bigSep ktoks (fun x => (dutyTok ER x.1 x.2.1 x.2.2 : sProp 𝕄))
    = bigSep Finset.univ (rows fun g => bigSep Finset.univ fun k : Dev nD => (dutyTok ER g 0 k : sProp 𝕄)) := by
  unfold ktoks; rw [bigSep_map, bigSep_univ_prod, bigSep_univ_prod]
  exact bigSep_congr fun d _ => rows_eq (fun g => bigSep Finset.univ fun k : Dev nD => (dutyTok ER g 0 k : sProp 𝕄)) d

theorem rows_sep (Φ Ψ : GSem nD τ sig → sProp 𝕄) (d : Dev nD) : rows (fun g => iprop(Φ g ∗ Ψ g)) d = iprop(rows Φ d ∗ rows Ψ d) := by
  rw [← rows_eq, ← rows_eq, ← rows_eq, bigSep_sep']

theorem fund : BI.own (ER (initOf kcells ktoks)) ⊢ (|==> bigSep Finset.univ (G ob eb) : sProp 𝕄) := by
  iintro HX
  imod (Rounds.fund ER (Rd ob eb) kcells ktoks) $$ HX with ⟨Hst, Hr, Hat, Htok⟩
  imodintro
  ihave Hst' := (Entails.of_eq (kcells_eq fun g => roundState ER (Rd ob eb) g 0)) $$ Hst
  ihave Hat' := (Entails.of_eq (kcells_eq (F := F) fun g => atPos ER g 0 ∅ 0)) $$ Hat
  ihave Hr' := (Entails.of_eq (kcells_eq (F := F) fun g => reached ER g 0)) $$ Hr
  ihave Htok' := (Entails.of_eq (ktoks_eq (F := F))) $$ Htok
  unfold G
  simp only [rows_sep, bigSep_sep']
  isplitl [Hst']; · iexact Hst'
  isplitl [Hat' Hr']
  · isplitl [Hat'] <;> iassumption
  iexact Htok'

/-- What the launch makes of it, with the semaphores at zero. -/
def G' (d : Dev nD) : sProp 𝕄 := iprop(∃ κ, records ob eb κ ∗ atS d ∗ toks d ∗ lsems d)

theorem core_alloc (c : Dev nD) :
    iprop(Pipeline.ownSems0 (Ix := Unit) (Name := ℕ) (U := UU) (Lvl := ℕ) (Val := Elt F) (τ := τ) osem c ∗ unscopedSems0 c ∗ G ob eb c)
      ⊢ |={Set.univ}=> iprop(rows (fun g => iprop(∃ κ : ℕ, cellInv ER (Rd ob eb) κ g)) c
          ∗ (rows (fun g => atPos ER g 0 ∅ 0) c ∗ lsems c) ∗ rows (fun g => reached ER g 0) c
          ∗ rows (fun g => bigSep Finset.univ fun k : Dev nD => dutyTok ER g 0 k) c) := by
  unfold G
  rw [rows_sep]
  iintro ⟨Hos, Hus, Hst, ⟨Hat, Hr⟩, Htok⟩
  ihave Hv := (sems_in (F := F) c) $$ [Hos Hus]
  · isplitl [Hos] <;> iassumption
  icases Hv with ⟨Hl, Hv⟩
  imod (show iprop(rows (fun g => semVal g 0) c ∗ rows (fun g => roundState ER (Rd ob eb) g 0) c)
      ⊢ (|={Set.univ}=> rows (fun g => iprop(∃ κ : ℕ, cellInv ER (Rd ob eb) κ g)) c : sProp 𝕄) from by
        rw [← rows_sep, ← rows_eq, ← rows_eq]
        exact (bigSep_mono fun k _ => (Rounds.body_intro ER (Rd ob eb) (kcell (c, k))).trans inv_alloc).trans (bigSep_fupd _ _)) $$ [Hv Hst] with Hinv
  · isplitl [Hv] <;> iassumption
  imodintro
  iclose

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens handed to the devices that pay with them. -/
theorem toks_deal : (bigSep Finset.univ fun c : Dev nD => rows (fun g => bigSep Finset.univ fun k : Dev nD => (dutyTok ER g 0 k : sProp 𝕄)) c)
    ⊢ bigSep Finset.univ fun d : Dev nD => toks d := by
  have e (c : Dev nD) : rows (fun g => bigSep Finset.univ fun k : Dev nD => (dutyTok ER g 0 k : sProp 𝕄)) c
      = bigSep Finset.univ fun k : Dev nD => rows (fun g => (dutyTok ER g 0 k : sProp 𝕄)) c := by
    rw [← rows_eq, bigSep_univ_comm]
    exact bigSep_congr fun k _ => rows_eq (fun g => (dutyTok ER g 0 k : sProp 𝕄)) c
  rw [bigSep_congr fun c _ => e c, bigSep_univ_comm]
  exact bigSep_mono fun d _ => Entails.of_eq (eight_eq _)

theorem rows_prod (Φ : Dev nD × Cell → sProp 𝕄) (Ψ : GSem nD τ sig → sProp 𝕄) (h : ∀ c, Φ c = Ψ (kcell c)) :
    bigSep Finset.univ (rows Ψ) = bigSep Finset.univ Φ := by
  rw [bigSep_univ_prod]
  exact bigSep_congr fun d _ => (rows_eq Ψ d).symm.trans (bigSep_congr fun k _ => (h (d, k)).symm)

theorem regroup :
    (bigSep Finset.univ fun c : Dev nD => iprop(rows (fun g => iprop(∃ κ : ℕ, cellInv ER (Rd ob eb) κ g)) c
          ∗ (rows (fun g => atPos ER g 0 ∅ 0) c ∗ lsems c) ∗ rows (fun g => reached ER g 0) c
          ∗ rows (fun g => bigSep Finset.univ fun k : Dev nD => dutyTok ER g 0 k) c) : sProp 𝕄)
      ⊢ bigSep Finset.univ (G' ob eb) := by
  rw [bigSep_sep' Finset.univ (fun c : Dev nD => rows (fun g => iprop(∃ κ : ℕ, cellInv ER (Rd ob eb) κ g)) c), bigSep_sep' Finset.univ (fun c : Dev nD => iprop(rows (fun g => (atPos ER g 0 ∅ 0 : sProp 𝕄)) c ∗ lsems c)),
    bigSep_sep' Finset.univ (fun c : Dev nD => rows (fun g => (reached ER g 0 : sProp 𝕄)) c),
    rows_prod (fun c => iprop(∃ κ : ℕ, cellInv ER (Rd ob eb) κ (kcell c))) (fun g => iprop(∃ κ : ℕ, cellInv ER (Rd ob eb) κ g)) fun _ => rfl,
    rows_prod (fun c => (reached ER (kcell c) 0 : sProp 𝕄)) (fun g => reached ER g 0) fun _ => rfl]
  iintro ⟨HI, Hat, #HR, Htok⟩
  ihave HK := (BI.bigSep_exists_pi Finset.univ (fun (ck : Dev nD × Cell) (κ : ℕ) => (cellInv ER (Rd ob eb) κ (kcell ck) : sProp 𝕄))) $$ HI
  icases HK with ⟨%κ, #HI⟩
  ihave Htk := (toks_deal (F := F)) $$ Htok
  iapply (bigSep_with_persistent (R := records ob eb κ) (Φ := fun d => iprop((atS d ∗ lsems d) ∗ toks d)) fun d _ => by
    unfold G'
    iintro ⟨#H, ⟨Ha, Hl⟩, Ht⟩
    iexists κ
    iclose)
  isplitr
  · unfold records
    isplitl
    · iexact HI
    · iexact HR
  · iapply (Entails.of_eq (bigSep_sep' Finset.univ (fun d : Dev nD => iprop(atS (F := F) d ∗ lsems d)) (fun d => toks d)).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G ob eb c) : sProp 𝕄)
    ⊢ |={Set.univ}=> bigSep Finset.univ (G' ob eb) :=
  ((bigSep_mono fun c _ => core_alloc ob eb c).trans (bigSep_fupd _ _)).trans (BI.fupd_mono (regroup ob eb))

/-! ## The launch credit -/

/-- A debt counts its cells. -/
theorem debt_count (l : List (Dev nD × SemLoc sig)) (d : Dev nD) (s : SemLoc sig) :
    debt l ((d : Thread nD τ), s) () = l.count (d, s) * amt s := by
  induction l with
  | nil => rw [List.count_nil, Nat.zero_mul]; rfl
  | cons x l ih =>
    unfold debt
    rw [Pi.add_apply, Finsupp.add_apply, ih, tallyAt_apply, List.count_cons]
    by_cases h : x = (d, s)
    · subst h; rw [if_pos ⟨rfl, rfl⟩, if_pos (by simp), Nat.add_mul, Nat.one_mul]
    · rw [if_neg (fun h' => h (Prod.ext (congrArg (fun g : GSem nD τ sig => g.1.1) h'.1.symm) (congrArg (fun g : GSem nD τ sig => g.2) h'.1.symm))),
        if_neg (by simpa using h), Nat.add_zero, Nat.add_zero]

theorem launch_at (d : Dev nD) (s : SemLoc sig) :
    tallyOn ((d : Thread nD τ), s) (launchCredit (Pipeline.owing O₀) 0 ((d : Thread nD τ), s))
      = (tallyAt ((d : Thread nD τ), s) () ((∑ k : Dev nD, (owed k).count (d, s)) * amt s) : CellTallies nD τ sig Unit) := by
  unfold tallyAt; refine congrArg _ (Finsupp.ext fun u => ?_); cases u
  rw [Pipeline.launchCredit_owing, Finsupp.single_eq_same, Finset.sum_mul]
  exact Finset.sum_congr rfl fun k _ => debt_count (owed k) d s

theorem count_bar : ∀ d : Dev nD, (∑ k : Dev nD, (owed k).count (d, .reg barS)) = (dut d (.reg barS)).card := by decide
theorem count_er : ∀ d : Dev nD, (∑ k : Dev nD, (owed k).count (d, .dma erS)) = if d = 0 then 1 else 0 := by decide
theorem count_r : ∀ (d : Dev nD) (n : Fin 8), (∑ k : Dev nD, (owed k).count (d, .dma (rS n))) = if d = 0 then 0 else 1 := by decide

theorem creds_intro (c : Dev nD) : (Pipeline.launchCred O₀ c : sProp 𝕄) ⊢ creds c := by
  unfold Pipeline.launchCred
  rw [bigSep_congr fun s _ => congrArg cred (launch_at c s)]
  refine (bigSep_subset (Finset.subset_univ ([.reg barS, .dma erS, .dma (rS 0), .dma (rS 1), .dma (rS 2), .dma (rS 3), .dma (rS 4), .dma (rS 5),
    .dma (rS 6), .dma (rS 7)] : List (SemLoc sig)).toFinset)).trans ?_
  rw [bigSep_eq_bigSepL_of_eq _ rfl (by decide)]
  have h1 : (∑ k : Dev nD, (owed k).count (c, .reg barS)) * amt (.reg barS) = (dut c (.reg barS)).card := by rw [count_bar, amt_bar, Nat.mul_one]
  have h2 : (∑ k : Dev nD, (owed k).count (c, .dma erS)) * amt (.dma erS) = if c = 0 then NE else 0 := by
    rw [count_er, amt_er]; split <;> simp
  have h3 (n : Fin 8) : (∑ k : Dev nD, (owed k).count (c, .dma (rS n))) * amt (.dma (rS n)) = if c = 0 then 0 else N := by
    rw [count_r, amt_r]; split <;> simp
  have key : (creds c : sProp 𝕄) = iprop(cred (tallyAt (barCell c) () ((∑ k : Dev nD, (owed k).count (c, .reg barS)) * amt (.reg barS)))
      ∗ cred (tallyAt (erCell c) () ((∑ k : Dev nD, (owed k).count (c, .dma erS)) * amt (.dma erS)))
      ∗ eight fun n => cred (tallyAt (rCell c n) () ((∑ k : Dev nD, (owed k).count (c, .dma (rS n))) * amt (.dma (rS n))))) := by
    simp only [h1, h2, h3]
  rw [key]
  exact Entails.of_eq (PROP := sProp 𝕄) rfl

end Cert.Tree
end
-- ==== Proof.Launch.lean ====
/-
  The run of the kernel on the mesh.
-/
module

public import proofs.«01_k».proof.Proof.Root
public import proofs.«01_k».proof.Proof.Edge
public import proofs.«01_k».proof.Proof.Fwd
public import proofs.«01_k».proof.Proof.Deal
public import proofs.«01_k».proof.Proof.Gen.KernelIdeal.Frame
public import Idealize.ShloMosaic.Lib.Pipeline.ValueKit

@[expose] public section

noncomputable section

namespace Cert.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]
local notation "𝕄" => MT nD τ sig Unit (Elt F) ℕ UU ℕ

variable (m : (ℓ : Loc nD τ sig) → Buf (Elt F) ℓ) (ρ : Dev nD → PrngReg)

/-! ## What the run computes -/

/-- The staged inputs of device `d`. -/
def xOf (d : Dev nD) : (cc0_stg0_0 : Ref sig .tc).ty.Contents (Elt F) := iblk m d 0 t0_0
def wqOf (d : Dev nD) : (cc0_stg1_0 : Ref sig .tc).ty.Contents (Elt F) := iblk m d 1 t0_0
def woOf (d : Dev nD) : (cc0_stg2_0 : Ref sig .tc).ty.Contents (Elt F) := iblk m d 2 t0_0
/-- The keys and values of device `d`. -/
abbrev kkOf (d : Dev nD) : (main_arg2 : Ref sig .tc).ty.Contents (Elt F) := m ((d : Thread nD τ).loc main_arg2)
abbrev vvOf (d : Dev nD) : (main_arg3 : Ref sig .tc).ty.Contents (Elt F) := m ((d : Thread nD τ).loc main_arg3)
/-- The edge rows, from device 1. -/
def edges : (cc0_scratch4 : Ref sig .tc).ty.Contents (Elt F) := ebOf (kkOf m 1) (vvOf m 1)
/-- The result, on every device. -/
def outOf : (cc0_stg3_0 : Ref sig .tc).ty.Contents (Elt F) :=
  blocksOf (blkVal (xOf m 0) (wqOf m 0) (woOf m 0) (kbOf (kkOf m 0) (edges m)) (vbOf (vvOf m 0) (edges m)))

/-- Every device's run. -/
theorem device (κ : Dev nD × Cell → ℕ) (W : Waits sig Unit) (d : Dev nD) :
    begins (outOf m) (edges m) (xOf m d) (wqOf m d) (woOf m d) (kkOf m d) (vvOf m d) κ W d
      ⊢ wp frame (wpE (defs₀ (F := F)) 𝒱₀ (d : Thread nD τ) none) Set.univ body
        fun _ => ends (outOf m) (edges m) (xOf m d) (wqOf m d) (woOf m d) (kkOf m d) (vvOf m d) d :=
  match d with
  | 0 => root _ _ κ W _ _ _ _ _ rfl
  | 1 => edge _ _ κ W _ _ _ _ _ rfl
  | 2 => leaf2 _ _ _ _ _ _ _ κ W
  | 3 => fwd3 _ _ _ _ _ _ _ κ W
  | 4 => fwd4 _ _ _ _ _ _ _ κ W
  | 5 => leaf5 _ _ _ _ _ _ _ κ W
  | 6 => leaf6 _ _ _ _ _ _ _ κ W
  | 7 => fwd7 _ _ _ _ _ _ _ κ W

/-- All cells of a device closed: their counters at zero. -/
theorem close_rows (ob : (cc0_stg3_0 : Ref sig .tc).ty.Contents (Elt F)) (eb : (cc0_scratch4 : Ref sig .tc).ty.Contents (Elt F))
    (κ : Dev nD × Cell → ℕ) (d : Dev nD) :
    iprop(records ob eb κ ∗ rows (spent ob eb) d) ⊢ (|={Set.univ}=> rows (fun g => semVal g 0) d : sProp 𝕄) := by
  rw [← rows_eq, ← rows_eq]
  refine (bigSep_with_persistent (R := records ob eb κ) (Ψ := fun c => iprop(|={Set.univ}=> semVal (kcell (d, c)) 0)) fun c _ => ?_).trans (bigSep_fupd _ _)
  unfold spent
  iintro ⟨#H, ⟨%R, %hR, Hat⟩⟩
  ihave ⟨#HI, -⟩ := (rec_at ob eb κ (d, c)) $$ H
  imod (Rounds.cell_close ER (Rd ob eb) (Set.mem_univ (κ (d, c))) (fun h => h) (R := R) hR) $$ [Hat] with Hz
  · isplitr
    · iexact HI
    iexact Hat
  imodintro
  iexact Hz

/-! ## The pipeline's proof data -/

/-- What the kernel keeps of device `d` besides the staged windows. -/
def scr (d : Dev nD) : sProp 𝕄 := iprop(pc d kM (kkOf m d) ∗ pc d vM (vvOf m d) ∗ any d kbM ∗ any d vbM ∗ any d stM ∗ any d esM ∗ any d eM)

def Φ₀ (d : Dev nD) : sProp 𝕄 :=
  iprop((∃ κ, records (outOf m) (edges m) κ ∗ atS d ∗ toks d ∗ lsems d) ∗ levAts L lv ∗ creds d ∗ scr m d)
def Φ₁ (d : Dev nD) : sProp 𝕄 := iprop((lsems d ∗ rows (fun g => semVal g 0) d) ∗ scr m d)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wqOf m c
    | ⟨2, _⟩ => woOf m c
    | ⟨3, _⟩ => outOf m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_0 (c : Dev nD) (d) : (dats m 0 c).before (0 : Fin 4) t0_0 d = xOf m c := by
  unfold Dat.before; rw [if_pos (show (cfg0.win (0 : Fin 4)).fetch t0_0 = true from rfl)]; rfl
theorem before_1 (c : Dev nD) (d) : (dats m 0 c).before (1 : Fin 4) t0_0 d = wqOf m c := by
  unfold Dat.before; rw [if_pos (show (cfg0.win (1 : Fin 4)).fetch t0_0 = true from rfl)]; rfl
theorem before_2 (c : Dev nD) (d) : (dats m 0 c).before (2 : Fin 4) t0_0 d = woOf m c := by
  unfold Dat.before; rw [if_pos (show (cfg0.win (2 : Fin 4)).fetch t0_0 = true from rfl)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem pc_whole (c : Dev nD) (b : Ref sig .tc) (X : Buf (Elt F) ((c : Thread nD τ).loc b)) :
    (pc c (Memref.whole b) X : sProp 𝕄) = (((c : Thread nD τ).loc b) ↦{fullShare} X) := by
  unfold pc; simp only [Memref.view_whole, View.set_whole]

theorem any_whole (c : Dev nD) (b : Ref sig .tc) :
    (any (F := F) c (Memref.whole b) : sProp 𝕄) = iprop(∃ f : Buf (Elt F) ((c : Thread nD τ).loc b), ((c : Thread nD τ).loc b) ↦{fullShare} f) :=
  congrArg BIBase.exists (funext fun X => pc_whole c b X)

/-- The scratch buffers no window stages. -/
theorem scoped_eq (c : Dev nD) : (Pipeline.scopedRest cfg0.spec c : sProp 𝕄) = iprop(any (F := F) c kbM ∗ any (F := F) c vbM ∗ any (F := F) c stM ∗ any (F := F) c esM ∗ any (F := F) c eM) := by
  rw [scopedRest0_eq, any_whole, any_whole, any_whole, any_whole, any_whole]

/-- A staged window's buffer. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xOf m c) ∗ stg c cc0_stg1_0 (wqOf m c) ∗ stg c cc0_stg2_0 (woOf m c)
    ∗ stg c cc0_stg3_0 (outOf m))

/-- A device that keeps the invariants closes its cells at the end of its run. -/
theorem body_run (κ : Dev nD × Cell → ℕ) (W : Waits sig Unit) (d : Dev nD) :
    begins (outOf m) (edges m) (xOf m d) (wqOf m d) (woOf m d) (kkOf m d) (vvOf m d) κ W d
      ⊢ wp frame (wpE (defs₀ (F := F)) 𝒱₀ (d : Thread nD τ) none) Set.univ body fun _ =>
          iprop((∃ W, owes (d : Thread nD τ) 0 W) ∗ rows (fun g => semVal g 0) d ∗ mine (xOf m d) (wqOf m d) (woOf m d) (kkOf m d) (vvOf m d) d
            ∗ pc d oM (outOf m) ∗ any d eM) := by
  have h : begins (outOf m) (edges m) (xOf m d) (wqOf m d) (woOf m d) (kkOf m d) (vvOf m d) κ W d
      ⊢ iprop(records (outOf m) (edges m) κ ∗ begins (outOf m) (edges m) (xOf m d) (wqOf m d) (woOf m d) (kkOf m d) (vvOf m d) κ W d) := by
    unfold begins
    iintro ⟨#H, Hr⟩
    isplitr
    · iexact H
    isplitr
    · iexact H
    iexact Hr
  refine h.trans ((sep_mono_right (device m κ W d)).trans ?_)
  refine (wp_frame_l frame (wpE (defs₀ (F := F)) 𝒱₀ (d : Thread nD τ) none) Set.univ).trans ?_
  refine (wp_mono frame (wpE (defs₀ (F := F)) 𝒱₀ (d : Thread nD τ) none) Set.univ fun _ => ?_).trans (wp_fupd frame (wpE (defs₀ (F := F)) 𝒱₀ (d : Thread nD τ) none) Set.univ _ _)
  unfold ends
  iintro ⟨#H, HO, Hs, Hm, Hp, He⟩
  imod (close_rows (outOf m) (edges m) κ d) $$ [Hs] with Hz
  · isplitr
    · iexact H
    iexact Hs
  imodintro
  isplitl [HO]; · iexact HO
  isplitl [Hz]; · iexact Hz
  isplitl [Hm]; · iexact Hm
  isplitl [Hp]; · iexact Hp
  iexact He

set_option maxRecDepth 4000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ body (fun _ => bodyPost m c)
  unfold bodyPre Φ₀ scr
  simp only [before_0, before_1, before_2]
  unfold Dat.owesAt Pipeline.owesWithin
  rw [show (dats m 0 c).owed t0_0.castSucc = O₀ c from rfl]
  iintro ⟨⟨⟨%κ, #HR, Hat, Htk, Hls⟩, #Hlev, Hcr, Hk, Hv, Hkb, Hvb, Hst, Hes, He⟩, ⟨%W, %hW, HO⟩, ⟨%d0, %g0, %hg0, Hx⟩, ⟨%d1, %g1, %hg1, Hq⟩, ⟨%d2, %g2, %hg2, Ho⟩, ⟨%d3, %g3, %hg3, Hout⟩⟩
  subst hg0 hg1 hg2
  icases Hls with ⟨Hl0, Hl1⟩
  ihave Hx := (Entails.of_eq (pc_whole c cc0_stg0_0 (xOf m c)).symm) $$ Hx
  ihave Hq := (Entails.of_eq (pc_whole c cc0_stg1_0 (wqOf m c)).symm) $$ Hq
  ihave Ho := (Entails.of_eq (pc_whole c cc0_stg2_0 (woOf m c)).symm) $$ Ho
  ihave Hout := (Entails.of_eq (pc_whole c cc0_stg3_0 g3).symm) $$ Hout
  ihave Hrun := (body_run m κ W c) $$ [Hat Htk Hl0 Hl1 Hcr Hk Hv Hkb Hvb Hst Hes He HO Hx Hq Ho Hout]
  · unfold begins mine
    isplitr; · iexact HR
    isplitr; · iexact Hlev
    isplitl [Hat]; · iexact Hat
    isplitl [Htk]; · iexact Htk
    isplitl [Hcr]; · iexact Hcr
    isplitl [HO]; · iexact HO
    isplitl [Hl0 Hl1 Hx Hq Ho Hk Hv Hkb Hvb Hst Hes]
    · isplitl [Hl0]; · iexact Hl0
      isplitl [Hl1]; · iexact Hl1
      isplitl [Hx]; · iexact Hx
      isplitl [Hq]; · iexact Hq
      isplitl [Ho]; · iexact Ho
      isplitl [Hk]; · iexact Hk
      isplitl [Hv]; · iexact Hv
      isplitl [Hkb]; · iexact Hkb
      isplitl [Hvb]; · iexact Hvb
      isplitl [Hst]; · iexact Hst
      iexact Hes
    isplitl [Hout]
    · iexists g3
      iexact Hout
    iexact He
  iapply (wp_mono frame (wpE (defs₀ (F := F)) 𝒱₀ (c : Thread nD τ) none) Set.univ fun _ => ?_) $$ Hrun
  unfold bodyPost Φ₁ scr mine Dat.owesAt Pipeline.owesWithin
  rw [show (dats m 0 c).owed t0_0.succ = 0 from rfl]
  iintro ⟨⟨%W', HO⟩, Hz, ⟨Hl0, Hl1, Hx, Hq, Ho, Hk, Hv, Hkb, Hvb, Hst, Hes⟩, Hout, He⟩
  ihave Hx := (Entails.of_eq (pc_whole c cc0_stg0_0 (xOf m c))) $$ Hx
  ihave Hq := (Entails.of_eq (pc_whole c cc0_stg1_0 (wqOf m c))) $$ Hq
  ihave Ho := (Entails.of_eq (pc_whole c cc0_stg2_0 (woOf m c))) $$ Ho
  ihave Hout := (Entails.of_eq (pc_whole c cc0_stg3_0 (outOf m))) $$ Hout
  isplitl [Hz Hl0 Hl1 Hk Hv Hkb Hvb Hst Hes He]
  · isplitl [Hz Hl0 Hl1]
    · isplitl [Hl0 Hl1]
      · isplitl [Hl0] <;> iassumption
      iexact Hz
    isplitl [Hk]; · iexact Hk
    isplitl [Hv]; · iexact Hv
    isplitl [Hkb]; · iexact Hkb
    isplitl [Hvb]; · iexact Hvb
    isplitl [Hst]; · iexact Hst
    isplitl [Hes] <;> iassumption
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Ho]
  · iexists _; isplitr; · (ipureintro; rfl)
    iexact Ho
  iexists _; isplitr; · (ipureintro; rfl)
  iexact Hout

/-! ## The theorem's side conditions -/

theorem share_eq (c : Dev nD) (w : Fin cfg0.W) : (dats m 0 c).share w = fullShare := by unfold Dat.share; split <;> rfl

/-- A device may wait for its staging cells whatever it owes. -/
theorem mayWait_stage (d : Dev nD) (q : Fin 40) (hq : q.val < 4) (n : ℕ) :
    (levAts L lv : sProp 𝕄) ⊢ MayWait (d : Thread nD τ) (.dma (q : DmaSem sig)) () (O₀ d) := by
  refine mayWait_debt d _ (owed d) fun x hx => ?_
  have h0 : lvS d (.dma (q : DmaSem sig)) = 0 := by unfold lvS; dsimp only; rw [if_neg (by omega), if_neg (by omega)]
  rw [h0]
  unfold owed at hx
  rcases List.mem_cons.mp hx with rfl | hx
  · exact Nat.one_pos
  rcases List.mem_append.mp hx with hx | hx
  · split at hx
    · rw [List.mem_singleton.mp hx]; decide
    · exact absurd hx List.not_mem_nil
  · rw [outs_lv hx]; omega

theorem waits (c : Dev nD) : (levAts L lv : sProp 𝕄) ⊢ Pipeline.cellsWaits cfgs (dats m) () 0 c :=
  Pipeline.cellsWaits_intro cfgs (dats m) () 0 c fun w s t => by
    rcases t with ⟨_ | k, ht⟩
    · exact mayWait_stage c _ (by fin_cases w <;> fin_cases s <;> decide) 0
    · exact mayWait_outs c _ 8 ()

/-- The unscoped buffers no window stages. -/
theorem rest_eq (c : Dev nD) : (Pipeline.unscopedRestP Pipeline.Prefetch.none cfg0.spec c (fun b => m ((c : Thread nD τ).loc b)) : sProp 𝕄)
    = iprop(pc c kM (kkOf m c) ∗ pc c vM (vvOf m c)) := by
  rw [Pipeline.unscopedRestP_none, unscopedRest0_eq, pc_whole, pc_whole]

def X (c : Dev nD) : sProp 𝕄 :=
  iprop(G' (outOf m) (edges m) c ∗ levAts L lv ∗ creds c ∗ Pipeline.unscopedRestP Pipeline.Prefetch.none cfg0.spec c (fun b => m ((c : Thread nD τ).loc b)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (outOf m) (edges m) c)
      ⊢ |={Set.univ}=> iprop(X m c ∗ emp) := by
  iintro ⟨Hu, Hlev, Hcr, -, HG⟩
  ihave Hc := (creds_intro (F := F) c) $$ Hcr
  imodintro
  unfold X
  isplitl
  · isplitl [HG]; · iexact HG
    isplitl [Hlev]; · iexact Hlev
    isplitl [Hc]; · iexact Hc
    iexact Hu
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_eq]
  unfold X Φ₀ scr G'
  rw [rest_eq]
  iintro ⟨⟨HG, Hlev, Hc, Hk, Hv⟩, -, H0, H1, H2, H3, H4⟩
  isplitl [HG]; · iexact HG
  isplitl [Hlev]; · iexact Hlev
  isplitl [Hc]; · iexact Hc
  isplitl [Hk]; · iexact Hk
  isplitl [Hv]; · iexact Hv
  isplitl [H0]; · iexact H0
  isplitl [H1]; · iexact H1
  isplitl [H2]; · iexact H2
  isplitl [H3]; · iexact H3
  iexact H4

def Y (c : Dev nD) : sProp 𝕄 :=
  iprop(unscopedSems0 c ∗ Pipeline.unscopedRestP Pipeline.Prefetch.none cfg0.spec c (fun b => m ((c : Thread nD τ).loc b)))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scoped_eq]
  unfold Φ₁ scr Y
  rw [rest_eq]
  iintro ⟨Hs, Hk, Hv, H0, H1, H2, H3, H4⟩
  ihave Hs := (sems_out (F := F) c) $$ Hs
  icases Hs with ⟨Hb, Ho⟩
  isplitl [Hb Hk Hv]
  · isplitl [Hb]; · iexact Hb
    isplitl [Hk] <;> iassumption
  isplitl [Ho]; · iexact Ho
  isplitl [H0]; · iexact H0
  isplitl [H1]; · iexact H1
  isplitl [H2]; · iexact H2
  isplitl [H3]; · iexact H3
  iexact H4

/-! ## The run -/

/-- What a final state holds: the windows' arrays as the pipeline leaves them, keys and values unchanged, all counters at zero. -/
def QC : PUnit × MemSt nD τ sig (Elt F) → Prop := fun r =>
  (∀ c : Dev nD, (∀ w : Fin cfg0.W, r.2.mem ((cfg0.win w).arr.view.loc (c : Thread nD τ)) = (dats m 0 c).arrAt w cfg0.N)
    ∧ r.2.mem ((c : Thread nD τ).loc main_arg2) = kkOf m c ∧ r.2.mem ((c : Thread nD τ).loc main_arg3) = vvOf m c)
  ∧ r.2.sem = fun _ => 0

set_option maxRecDepth 8000 in
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (outOf m) (edges m)) (G' := G' (outOf m) (edges m)) (u₀ := u₀)
    (hu₀ := by
      unfold u₀
      iintro Hu
      ihave H := (ownU_split _ _) $$ Hu
      icases H with ⟨HP, HX⟩
      imod (fund (outOf m) (edges m)) $$ HX with HG
      imodintro
      isplitl [HP] <;> iassumption)
    (hglob := glob (outOf m) (edges m))
    (hA := fun _ _ => rfl) (hpf := fun _ k => k.elim0)
    (X := X m) (Y := Y m) (Z := fun _ => iprop(emp))
    (hX := start_intro m ρ) (hin := phi0_intro m) (hout := phi1_exit m)
    (QY := fun c s => (∀ b ∈ Pipeline.restRefsP sig Pipeline.Prefetch.none cfg0.spec, s.mem ((c.tc : Thread nD τ).loc b) = m ((c : Thread nD τ).loc b))
      ∧ ∀ sm : SemLoc sig, sm.isScoped .tc = false → s.sem ((c.tc : Thread nD τ), sm) = 0)
    (hY := fun c s' => by
      unfold Y Pipeline.unscopedRestP
      iintro ⟨⟨Hu, Hr⟩, -, HSI⟩
      ihave H := (Idealize.ShloMosaic.pointsTo_read_all (Pipeline.restRefsP sig Pipeline.Prefetch.none cfg0.spec) (fun b => (c.tc : Thread nD τ).loc b) (fun b => m ((c : Thread nD τ).loc b)) s') $$ [Hr HSI]
      · isplitl [Hr] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h, h'⟩
      iexact HSI)
    (hQ := fun _ h hs => ⟨fun c => ⟨fun w => (h c).1 w, (h c).2.2.1 main_arg2 (by decide), (h c).2.2.1 main_arg3 (by decide)⟩, sem_eq_zero hs fun c => (h c).2.2.2⟩)

theorem final_out (c : Dev nD) : (dats m 0 c).arrAt (3 : Fin 4) cfg0.N = outOf m := by
  refine (dats m 0 c).arrAt_eq_of_after_last (3 : Fin 4) t0_0 (by decide +kernel) _ fun j => ?_
  rfl

/-- Every weak-fair run ends with the result on every device, the operands unchanged and every counter at zero. -/
theorem run_final : θ_run defs (onTc (τ := τ) (main (F := F))) ⟨m, fun _ => 0, ρ⟩ (fun r =>
    (∀ c : Dev nD, r.2.mem ((c : Thread nD τ).loc main_v1) = outOf m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨((h.1 c).1 3).trans (final_out m c),
    ((h.1 c).1 0).trans ((dats m 0 c).arrAt_in (0 : Fin 4) rfl _), ((h.1 c).1 1).trans ((dats m 0 c).arrAt_in (1 : Fin 4) rfl _),
    (h.1 c).2.1, (h.1 c).2.2, ((h.1 c).1 2).trans ((dats m 0 c).arrAt_in (2 : Fin 4) rfl _)⟩, h.2⟩) (run_main m ρ)

end Cert.Tree
end
-- ==== Proof.Frames.lean ====
/-
  The frames: each program runs, leaves its arguments as they were, and ends with every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Tree

open Idealize.ShloMosaic Idealize.SL.Sem

/-- On machine words the name stands for the constant it names. -/
@[reducible] def namedBits : Named Bits := ⟨fun _ _ {φ} w => FloatOps.ofBits φ w⟩
attribute [local instance] namedBits

set_option maxRecDepth 8000 in
theorem main_same : Cert.Kernel.main (F := Bits) = Cert.KernelIdeal.main (F := Bits) := rfl

set_option maxRecDepth 8000 in
theorem region_same : @Cert.Kernel.cc0_body Bits _ _ = @Cert.KernelIdeal.cc0_body Bits _ _ _ := rfl

set_option maxRecDepth 8000 in
theorem body_same : Cert.Kernel.defs₀ (F := Bits) = Cert.KernelIdeal.defs₀ (F := Bits) := by
  unfold Cert.Kernel.defs₀ Cert.KernelIdeal.defs₀
  refine congrArg Defs.onTc (funext fun l => funext fun x => ?_)
  fin_cases l
  obtain ⟨t, s⟩ := x
  dsimp only
  rw [region_same]

set_option maxRecDepth 8000 in
theorem defs_same : Cert.Kernel.defs (F := Bits) = Cert.KernelIdeal.defs (F := Bits) := congrArg (Pipeline.defs _) body_same

/-- The kernel as it stands is the idealized program read on machine words. -/
theorem frame_kernel : Cert.quiescent_Kernel := by
  intro m g _
  rw [main_same, defs_same]
  exact (θ_run (Cert.KernelIdeal.defs (F := Bits)) _ ⟨m, fun _ => 0, g⟩).mono (fun r h => ⟨fun c => (h.1 c).2, h.2⟩) (run_final (F := Bits) m g)

theorem frame_ideal : Cert.quiescent_KernelIdeal := by
  intro m g _
  refine (θ_run (Cert.KernelIdeal.defs (F := Ideal)) _ ⟨m, fun _ => 0, g⟩).mono ?_ (run_final (F := Ideal) m g)
  exact fun r h => ⟨fun c => (h.1 c).2, h.2⟩

theorem frame_reference : Cert.quiescent_ReferenceIdeal := by
  intro m g _
  refine (θ_run (Cert.ReferenceIdeal.defs (F := Ideal)) _ ⟨m, fun _ => 0, g⟩).mono ?_ (Cert.ReferenceIdeal.Value.run (F := Ideal) m g)
  exact fun r h => ⟨fun c => (h c).2, sem_eq_zero_of_no_sems (by decide) r.2⟩

theorem preserves : Cert.preserves_Kernel_KernelIdeal :=
  IdealRules.named_const.statement Cert.KernelIdeal.κ "mask" .f32 0xCE6E6B28#32 ⊥ rfl

end Cert.Tree
end
-- ==== Proof.Softmax.lean ====
/-
  A softmax over all keys against one over a band that holds every key the mask keeps, over the extended reals.
-/
module

public import Idealize.ShloMosaic.PureOps.Ideal.Laws

@[expose] public section

noncomputable section

namespace Cert.Tree

open Idealize.ShloMosaic

/-- The sum of reals, read as extended reals. -/
theorem coe_sum {I : Type} [Fintype I] (f : I → ℝ) : ((∑ i, f i : ℝ) : EReal) = ∑ i, (f i : EReal) := by
  classical
  induction (Finset.univ : Finset I) using Finset.induction_on with
  | empty => simp
  | insert a s ha ih => rw [Finset.sum_insert ha, Finset.sum_insert ha, EReal.coe_add, ih]

/-- A nonnegative real factor may be taken into a sum of extended reals. -/
theorem sum_mul_coe {I : Type} [Fintype I] (f : I → EReal) (r : ℝ) (hr : 0 ≤ r) : (∑ i, f i) * (r : EReal) = ∑ i, f i * (r : EReal) := by
  classical
  induction (Finset.univ : Finset I) using Finset.induction_on with
  | empty => simp
  | insert a s ha ih =>
    rw [Finset.sum_insert ha, Finset.sum_insert ha, EReal.right_distrib_of_nonneg_of_ne_top (EReal.coe_nonneg.mpr hr) (EReal.coe_ne_top r), ih]

/-- Division by a nonzero real is multiplication by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

section
variable {J : Type} [Fintype J] (P : J → Prop) [DecidablePred P] (a : J → ℝ)

/-- A score: real where the mask keeps the key, minus infinity elsewhere. -/
def masked (j : J) : EReal := if P j then (a j : EReal) else ⊥
/-- Its exponential. -/
def weight (j : J) : ℝ := if P j then Real.exp (a j) else 0

/-- The exponential of a score is its weight. -/
theorem exp_masked (j : J) : Ideal.exp (masked P a j) = (weight P a j : EReal) := by
  unfold masked weight
  split
  · exact Ideal.exp_coe _
  · rw [Ideal.exp_bot, EReal.coe_zero]

/-- The row's maximum is a real number, since the mask keeps a key. -/
theorem max_real (j₀ : J) (h₀ : P j₀) : ∃ M : ℝ, Finset.univ.fold max ⊥ (masked P a) = (M : EReal) := by
  obtain ⟨j, -, hj⟩ := Finset.exists_mem_eq_sup Finset.univ ⟨j₀, Finset.mem_univ j₀⟩ (masked P a)
  have h1 : masked P a j₀ ≤ Finset.univ.sup (masked P a) := Finset.le_sup (Finset.mem_univ j₀)
  have h2 : (Finset.univ.sup (masked P a) : EReal) = Finset.univ.fold max ⊥ (masked P a) := rfl
  rw [← h2]
  by_cases h : P j
  · exact ⟨a j, by rw [hj]; exact if_pos h⟩
  · rw [hj, show masked P a j = ⊥ from if_neg h, show masked P a j₀ = (a j₀ : EReal) from if_pos h₀] at h1
    exact absurd (le_bot_iff.mp h1) (EReal.coe_ne_bot _)

/-- The same with a real number taken off the score. -/
theorem exp_masked_sub (M : ℝ) (j : J) : Ideal.exp (masked P a j - (M : EReal)) = ((weight P a j * Real.exp (-M) : ℝ) : EReal) := by
  unfold masked weight
  split
  · rw [← EReal.coe_sub, Ideal.exp_coe, sub_eq_add_neg, Real.exp_add]
  · rw [EReal.bot_sub, Ideal.exp_bot, zero_mul, EReal.coe_zero]

/-- The weights' total is positive, since the mask keeps a key. -/
theorem total_pos (j₀ : J) (h₀ : P j₀) : 0 < ∑ j, weight P a j :=
  Finset.sum_pos' (fun j _ => by unfold weight; split; exacts [(Real.exp_pos _).le, le_rfl])
    ⟨j₀, Finset.mem_univ _, by unfold weight; rw [if_pos h₀]; exact Real.exp_pos _⟩

/-- The softmax with the maximum taken off, its weights divided one by one, is the plain one: the weights' sum against the
    values, times the reciprocal of their total, over any band that holds the keys the mask keeps. -/
theorem softmax_band {B : Type} [Fintype B] (ι : B → J) (hι : Function.Injective ι) (hP : ∀ j, P j → ∃ b, ι b = j) (j₀ : J) (h₀ : P j₀)
    (v : J → EReal) :
    (∑ b, Ideal.exp (masked P a (ι b)) * v (ι b)) * Ideal.div 1 (∑ b, Ideal.exp (masked P a (ι b)))
      = ∑ j, v j * Ideal.div (Ideal.exp (masked P a j - Finset.univ.fold max ⊥ (masked P a)))
          (∑ j', Ideal.exp (masked P a j' - Finset.univ.fold max ⊥ (masked P a))) := by
  obtain ⟨M, hM⟩ := max_real P a j₀ h₀
  have hS := total_pos P a j₀ h₀
  have hout : ∀ j, j ∉ Set.range ι → weight P a j = 0 := fun j hj => if_neg fun h => hj (hP j h)
  rw [hM]
  simp only [exp_masked, exp_masked_sub]
  have e1 : ∑ b, (weight P a (ι b) : EReal) * v (ι b) = ∑ j, (weight P a j : EReal) * v j :=
    Fintype.sum_of_injective ι hι _ _ (fun j hj => by rw [hout j hj, EReal.coe_zero, zero_mul]) fun _ => rfl
  have e2 : ∑ b, (weight P a (ι b) : EReal) = ∑ j, (weight P a j : EReal) :=
    Fintype.sum_of_injective ι hι _ _ (fun j hj => by rw [hout j hj, EReal.coe_zero]) fun _ => rfl
  have hE := Real.exp_pos (-M)
  rw [e1, e2, ← coe_sum, ← coe_sum, ← Finset.sum_mul, div_coe _ _ hS.ne', one_mul, sum_mul_coe _ _ (inv_nonneg.mpr hS.le)]
  refine Finset.sum_congr rfl fun j _ => ?_
  rw [div_coe _ _ (mul_pos hS hE).ne', mul_comm (weight P a j : EReal) (v j), mul_assoc, ← EReal.coe_mul, ← EReal.coe_mul]
  congr 2
  field_simp

end

end Cert.Tree
end
-- ==== Proof.Words.lean ====
/-
  The masks' index words, and the constants the programs spell as bits.
-/
module

public import Idealize.ShloMosaic.PureOps.Ideal.Laws
public import Idealize.ShloMosaic.Lib.Pointwise

@[expose] public section

noncomputable section

namespace Cert.Tree

open Idealize.ShloMosaic

/-- The bit "|i - j + k| ≤ 128" of three index words. -/
theorem near_word (i j k : ℕ) (hi : i < 65536) (hj : j < 65536) (hk : k < 65536) :
    IntOp.cmpi CmpIPredicate.sle (IntOp.absi (IntOp.addi (IntOp.subi (BitVec.ofNat 32 i) (BitVec.ofNat 32 j)) (BitVec.ofNat 32 k))) 128#32
      = if i + k ≤ j + 128 ∧ j ≤ i + k + 128 then 1#1 else 0#1 := by
  have hx : (BitVec.ofNat 32 i - BitVec.ofNat 32 j + BitVec.ofNat 32 k).toNat = (4294967296 - j + i + k) % 4294967296 := by
    simp only [BitVec.toNat_add, BitVec.toNat_sub, BitVec.toNat_ofNat]; omega
  unfold IntOp.cmpi IntOp.absi IntOp.addi IntOp.subi
  dsimp only
  generalize BitVec.ofNat 32 i - BitVec.ofNat 32 j + BitVec.ofNat 32 k = x at hx
  have hb : (if x.msb then -x else x).sle 128#32 = decide (i + k ≤ j + 128 ∧ j ≤ i + k + 128) := by
    rw [Bool.eq_iff_iff, decide_eq_true_iff, BitVec.sle_iff_toInt_le, BitVec.msb_eq_decide]
    split
    · rename_i h
      have h' := of_decide_eq_true h
      rw [BitVec.toInt_eq_toNat_cond, BitVec.toInt_eq_toNat_cond, BitVec.toNat_neg, hx]
      rw [hx] at h'
      simp only [BitVec.toNat_ofNat]
      split <;> split <;> omega
    · rename_i h
      have h' : ¬ 2 ^ (32 - 1) ≤ x.toNat := fun h2 => h (decide_eq_true h2)
      rw [BitVec.toInt_eq_toNat_cond, BitVec.toInt_eq_toNat_cond, hx]
      rw [hx] at h'
      simp only [BitVec.toNat_ofNat]
      split <;> split <;> omega
  rw [hb]
  by_cases h : i + k ≤ j + 128 ∧ j ≤ i + k + 128
  · rw [if_pos h, decide_eq_true h]; rfl
  · rw [if_neg h, decide_eq_false h]; rfl

/-- The same without a shift. -/
theorem near_word_0 (i j : ℕ) (hi : i < 65536) (hj : j < 65536) :
    IntOp.cmpi CmpIPredicate.sle (IntOp.absi (IntOp.subi (BitVec.ofNat 32 i) (BitVec.ofNat 32 j))) 128#32
      = if i ≤ j + 128 ∧ j ≤ i + 128 then 1#1 else 0#1 := by
  have h := near_word i j 0 hi hj (by decide)
  rwa [show IntOp.addi (IntOp.subi (BitVec.ofNat 32 i) (BitVec.ofNat 32 j)) (BitVec.ofNat 32 0) = IntOp.subi (BitVec.ofNat 32 i) (BitVec.ofNat 32 j)
    from BitVec.add_zero _, Nat.add_zero] at h

/-- A disjunction of bits, one of them set. -/
theorem or_set {I : Type} [Fintype I] (f : I → BitVec 1) (i : I) (h : f i = 1#1) : Finset.univ.fold IntOp.ori 0#1 f = 1#1 := by
  classical
  rw [← Finset.insert_erase (Finset.mem_univ i), Finset.fold_insert (Finset.notMem_erase i _), h]
  generalize Finset.fold IntOp.ori 0#1 f _ = y
  revert y; decide

/-- A choice by a bit that a condition sets. -/
theorem select_if {A : Type} (p : Prop) [Decidable p] (x y : A) : Scalar.select (if p then 1#1 else 0#1) x y = if p then x else y := by
  unfold Scalar.select
  split
  · exact if_pos rfl
  · exact if_neg (by decide)

/-- The word of minus infinity. -/
theorem bits_neg_inf : Ideal.ofBits FTy.f32 0xFF800000#32 = ⊥ := by simp [Ideal.ofBits, Ideal.ieee]

/-- The scale the programs multiply the scores with. -/
def scale : ℝ := (Ideal.ofBits FTy.f32 0x3DB504F3#32).toReal

/-- The scale's word is a real number. -/
theorem bits_scale : Ideal.ofBits FTy.f32 0x3DB504F3#32 = (scale : EReal) := by
  unfold scale
  refine (EReal.coe_toReal ?_ ?_).symm <;> simp [Ideal.ofBits, Ideal.ieee, -EReal.coe_mul]

end Cert.Tree
end
-- ==== Proof.Value.lean ====
/-
  The kernel's result at an index, as sums over the inputs.
-/
module

public import proofs.«01_k».proof.Proof.Launch
public import proofs.«01_k».proof.Proof.Words

@[expose] public section

noncomputable section

namespace Cert.Tree

open Cert.KernelIdeal Cert.KernelIdeal.Gen
open Idealize.ShloMosaic

/-! ## One block of rows -/

/-- A column of the head that `c` lies in. -/
def hcol (c : Fin 1024) (t : Fin 128) : Fin 1024 := ⟨c.val / 128 * 128 + t.val, by omega⟩

/-- A band of scores. -/
def bandScore (neg : FVec Ideal S256x512 .f32) (q : FVec Ideal S256x1024 .bf16) (kb : Vec Ideal S512x1024 .bf16) (r : Fin 256) (c : Fin 1024)
    (x : Fin 512) : EReal :=
  ∑ t : Fin 128, q (ix2 r (hcol c t)) * kb (ix2 x (hcol c t)) + neg (ix2 r x)

/-- A context row's entry. -/
def bandVal (neg : FVec Ideal S256x512 .f32) (q : FVec Ideal S256x1024 .bf16) (kb vb : Vec Ideal S512x1024 .bf16) (r : Fin 256) (c : Fin 1024) : EReal :=
  (∑ x : Fin 512, Ideal.exp (bandScore neg q kb r c x) * vb (ix2 x c)) * Ideal.div 1 (∑ x : Fin 512, Ideal.exp (bandScore neg q kb r c x))

section
variable (neg : FVec Ideal S256x512 .f32) (q : FVec Ideal S256x1024 .bf16) (kb vb : Vec Ideal S512x1024 .bf16) (r : Fin 256)

/-- One head's context entry, opened into its sums. -/
theorem head_eq (o : ℕ) (ho : o + 128 ≤ 1024) (h1 : S256x1024.Slices ![0, o] S256x128) (h2 : S512x1024.Slices ![0, o] S512x128) (d : Fin 128) :
    headOf neg q kb vb o h1 h2 (ix2 r d) =
      (∑ x : Fin 512, Ideal.exp (∑ t : Fin 128, q (ix2 r (⟨o + t, by omega⟩ : Fin 1024)) * kb (ix2 x (⟨o + t, by omega⟩ : Fin 1024)) + neg (ix2 r x))
          * vb (ix2 x (⟨o + d, by omega⟩ : Fin 1024)))
        * Ideal.div 1 (∑ x : Fin 512, Ideal.exp (∑ t : Fin 128, q (ix2 r (⟨o + t, by omega⟩ : Fin 1024)) * kb (ix2 x (⟨o + t, by omega⟩ : Fin 1024)) + neg (ix2 r x))) := by
  unfold headOf
  pointwise

/-- The same, at the column of the whole row. -/
theorem head_at (o : ℕ) (h1 : S256x1024.Slices ![0, o] S256x128) (h2 : S512x1024.Slices ![0, o] S512x128) (d : Fin 128) (c : Fin 1024)
    (ho : c.val / 128 * 128 = o) (hd : o + d.val = c.val) : headOf neg q kb vb o h1 h2 (ix2 r d) = bandVal neg q kb vb r c := by
  subst ho
  rw [head_eq _ _ _ _ _ _ (by omega)]
  have : (⟨c.val / 128 * 128 + d.val, by omega⟩ : Fin 1024) = c := Fin.ext hd
  rw [this]
  rfl

/-- The heads side by side: an entry lies in the head of its column. -/
theorem ctx_at (c : Fin 1024) : ctxOf neg q kb vb (ix2 r c) = bandVal neg q kb vb r c := by
  unfold ctxOf
  pointwise
  repeat' split
  all_goals exact head_at _ _ _ _ _ _ _ _ _ _ (by omega) (by dsimp only; omega)

/-- A scaled query entry. -/
theorem q_at (wq : FVec Ideal S1024x1024 .bf16) (xc : Vec Ideal S1x256x1024 .bf16) (c : Fin 1024) :
    qOf wq xc (ix2 r c) = (∑ k : Fin 1024, xc (ix3 0 r k) * wq (ix2 k c)) * Ideal.ofBits .f32 0x3DB504F3#32 := by
  unfold qOf
  pointwise

/-- A block's entry: the context row against a column of Wo. -/
theorem chunk_at (wq wo : FVec Ideal S1024x1024 .bf16) (xc : Vec Ideal S1x256x1024 .bf16) (d : Fin 1024) :
    chunkOf neg wq wo xc kb vb (ix3 0 r d) = ∑ c : Fin 1024, bandVal neg (qOf wq xc) kb vb r c * wo (ix2 c d) := by
  simp only [← ctx_at]
  unfold chunkOf
  pointwise
end

/-! ## The masks -/

/-- The named mask constant is minus infinity. -/
theorem κ_mask : (Named.named κ "mask" 0xCE6E6B28#32 : Ideal .f32) = ⊥ := IdealRules.named_const.ideal_named_scalar _ _ _ _ rfl

/-- The mask of the blocks after the first, whose band begins 128 rows before the block. -/
theorem mask_mid (r : Fin 256) (x : Fin 512) :
    (k0_pay6 (F := Ideal)) (ix2 r x) = if r.val + 128 ≤ x.val + 128 ∧ x.val ≤ r.val + 128 + 128 then 0 else ⊥ := by
  rw [← κ_mask, ← select_if, ← near_word r.val x.val 128 (by omega) (by omega) (by decide)]
  unfold k0_pay6
  pointwise

/-- The mask of the first block, whose band begins with it. -/
theorem mask_top (r : Fin 256) (x : Fin 512) :
    (k0_pay8 (F := Ideal) k0_pay7) (ix2 r x) = if r.val ≤ x.val + 128 ∧ x.val ≤ r.val + 128 then 0 else ⊥ := by
  unfold k0_pay8 k0_pay7
  pointwise
  rw [near_word_0 r.val x.val (by omega) (by omega), select_if, κ_mask]

/-! ## The packed keys and values -/

abbrev hd (c : Fin 1024) : Fin 8 := ⟨c.val / 128, by omega⟩
abbrev ln (c : Fin 1024) : Fin 128 := ⟨c.val % 128, Nat.mod_lt _ (by decide)⟩

/-- The packed keys of device 0: head and lane side by side. -/
theorem k_at (kk : (main_arg2 : Ref sig .tc).ty.Contents (Elt Ideal)) (r : Fin 2048) (c : Fin 1024) : kOf kk (ix2 r c) = kk (ix4 0 r (hd c) (ln c)) := by
  unfold kOf k0_pay2 k0_pay1
  pointwise
  exact congrArg kk (funext fun i => Fin.ext (by fin_cases i <;> exact (Nat.zero_add _).trans (Nat.one_mul _)))

/-- The packed values of device 0. -/
theorem v_at (kk : (main_arg3 : Ref sig .tc).ty.Contents (Elt Ideal)) (r : Fin 2048) (c : Fin 1024) : vOf kk (ix2 r c) = kk (ix4 0 r (hd c) (ln c)) := by
  unfold vOf k0_pay3
  pointwise
  exact congrArg kk (funext fun i => Fin.ext (by fin_cases i <;> exact (Nat.zero_add _).trans (Nat.one_mul _)))

/-- The edge rows of the keys are the first rows of device 1. -/
theorem ek_at (kk : (main_arg2 : Ref sig .tc).ty.Contents (Elt Ideal)) (vv) (r : Fin 256) (c : Fin 1024) :
    k0_pay102 (View.readAt (Elt Ideal) eM.view edgeR0.toLoadRect (ebOf kk vv)) (ix2 r c) = kk (ix4 0 (⟨r.val, by omega⟩ : Fin 2048) (hd c) (ln c)) := by
  unfold ebOf
  rw [edgeOf_0]
  unfold k0_pay102 k0_pay116
  pointwise
  exact congrArg kk (funext fun i => Fin.ext (by fin_cases i <;> exact (Nat.zero_add _).trans (Nat.one_mul _)))

/-- The edge rows of the values are the first rows of device 1. -/
theorem ev_at (kk : (main_arg2 : Ref sig .tc).ty.Contents (Elt Ideal)) (vv) (r : Fin 256) (c : Fin 1024) :
    k0_pay103 (View.readAt (Elt Ideal) eM.view edgeR1.toLoadRect (ebOf kk vv)) (ix2 r c) = vv (ix4 0 (⟨r.val, by omega⟩ : Fin 2048) (hd c) (ln c)) := by
  unfold ebOf
  rw [edgeOf_1]
  unfold k0_pay103 k0_pay117
  pointwise
  exact congrArg vv (funext fun i => Fin.ext (by fin_cases i <;> exact (Nat.zero_add _).trans (Nat.one_mul _)))

/-- The packed keys of device 0 are rows of the whole array, when its own keys are the first 2048 rows and those of device 1 the next. -/
theorem kb_at (k0 k1 : (main_arg2 : Ref sig .tc).ty.Contents (Elt Ideal)) (v1 : (main_arg3 : Ref sig .tc).ty.Contents (Elt Ideal))
    (K : (⟨4, ![1, 16384, 8, 128]⟩ : Shape).Idx → EReal)
    (h0 : ∀ (j : Fin 2048) (h : Fin 8) (t : Fin 128), k0 (ix4 0 j h t) = K (ix4 0 (⟨j.val, by omega⟩ : Fin 16384) h t))
    (h1 : ∀ (j : Fin 2048) (h : Fin 8) (t : Fin 128), k1 (ix4 0 j h t) = K (ix4 0 (⟨2048 + j.val, by omega⟩ : Fin 16384) h t))
    (r : Fin 2304) (c : Fin 1024) : kbOf k0 (ebOf k1 v1) (ix2 r c) = K (ix4 0 (⟨r.val, by omega⟩ : Fin 16384) (hd c) (ln c)) := by
  by_cases h : r.val < 2048
  · exact (dif_pos h).trans ((k_at k0 ⟨r.val, h⟩ c).trans (h0 _ _ _))
  · refine (dif_neg h).trans ((ek_at k1 v1 ⟨r.val - 2048, by omega⟩ c).trans ((h1 _ _ _).trans ?_))
    exact congrArg (fun j => K (ix4 0 j (hd c) (ln c))) (Fin.ext (by dsimp only; omega))

/-- The same for the packed values. -/
theorem vb_at (v0 v1 : (main_arg3 : Ref sig .tc).ty.Contents (Elt Ideal)) (k1 : (main_arg2 : Ref sig .tc).ty.Contents (Elt Ideal))
    (V : (⟨4, ![1, 16384, 8, 128]⟩ : Shape).Idx → EReal)
    (h0 : ∀ (j : Fin 2048) (h : Fin 8) (t : Fin 128), v0 (ix4 0 j h t) = V (ix4 0 (⟨j.val, by omega⟩ : Fin 16384) h t))
    (h1 : ∀ (j : Fin 2048) (h : Fin 8) (t : Fin 128), v1 (ix4 0 j h t) = V (ix4 0 (⟨2048 + j.val, by omega⟩ : Fin 16384) h t))
    (r : Fin 2304) (c : Fin 1024) : vbOf v0 (ebOf k1 v1) (ix2 r c) = V (ix4 0 (⟨r.val, by omega⟩ : Fin 16384) (hd c) (ln c)) := by
  by_cases h : r.val < 2048
  · exact (dif_pos h).trans ((v_at v0 ⟨r.val, h⟩ c).trans (h0 _ _ _))
  · refine (dif_neg h).trans ((ev_at k1 v1 ⟨r.val - 2048, by omega⟩ c).trans ((h1 _ _ _).trans ?_))
    exact congrArg (fun j => V (ix4 0 j (hd c) (ln c))) (Fin.ext (by dsimp only; omega))

/-! ## The result -/

/-- The key row at place `b` of the band that the block of row `i` reads. -/
def key (i : Fin 2048) (b : Fin 512) : Fin 16384 := ⟨256 * (i.val / 256) - 128 + b.val, by omega⟩

/-- The mask keeps the keys at a distance of at most 128. -/
abbrev near (i j : ℕ) : Prop := i ≤ j + 128 ∧ j ≤ i + 128

section
variable (X : (⟨3, ![1, 2048, 1024]⟩ : Shape).Idx → EReal) (Wq Wo : (⟨2, ![1024, 1024]⟩ : Shape).Idx → EReal)
  (K V : (⟨4, ![1, 16384, 8, 128]⟩ : Shape).Idx → EReal)

/-- The score of row `i` against place `b` of its band, in the head of column `c`. -/
def score (i : Fin 2048) (c : Fin 1024) (b : Fin 512) : EReal :=
  ∑ t : Fin 128, ((∑ k : Fin 1024, X (ix3 0 i k) * Wq (ix2 k (hcol c t))) * Ideal.ofBits .f32 0x3DB504F3#32) * K (ix4 0 (key i b) (hd c) t)
    + if near i.val (key i b).val then 0 else ⊥

/-- The context entry of row `i` at column `c`. -/
def context (i : Fin 2048) (c : Fin 1024) : EReal :=
  (∑ b : Fin 512, Ideal.exp (score X Wq K i c b) * V (ix4 0 (key i b) (hd c) (ln c))) * Ideal.div 1 (∑ b : Fin 512, Ideal.exp (score X Wq K i c b))

/-- A row of the band read from the packed keys. -/
theorem band_at (n : Fin 8) (f : (cc0_scratch0 : Ref sig .tc).ty.Contents (Elt Ideal)) (b : Fin 512) (c : Fin 1024) :
    View.readAt (Elt Ideal) kbM.view (bandR n).toLoadRect f (ix2 b c) = f (ix2 (⟨256 * n.val - 128 + b.val, by omega⟩ : Fin 2304) c) :=
  congrArg f (funext fun i => Fin.ext (by
    fin_cases i
    · exact congrArg (256 * n.val - 128 + ·) (Nat.one_mul _)
    · exact (Nat.zero_add _).trans (Nat.one_mul _)))

/-- A row of the band read from the packed values. -/
theorem band_at' (n : Fin 8) (f : (cc0_scratch1 : Ref sig .tc).ty.Contents (Elt Ideal)) (b : Fin 512) (c : Fin 1024) :
    View.readAt (Elt Ideal) vbM.view (bandR n).toLoadRect f (ix2 b c) = f (ix2 (⟨256 * n.val - 128 + b.val, by omega⟩ : Fin 2304) c) :=
  band_at n f b c

/-- Wq as loaded. -/
theorem pay4_at (v : Vec Ideal S1024x1024 .bf16) (k c : Fin 1024) : k0_pay4 (F := Ideal) v (ix2 k c) = v (ix2 k c) := by
  unfold k0_pay4
  pointwise

/-- Wo as loaded. -/
theorem pay5_at (v : Vec Ideal S1024x1024 .bf16) (k c : Fin 1024) : k0_pay5 (F := Ideal) v (ix2 k c) = v (ix2 k c) := by
  unfold k0_pay5
  pointwise

/-- A block of the result, from buffers that hold the arrays' entries. -/
theorem blk_at (x : (cc0_stg0_0 : Ref sig .tc).ty.Contents (Elt Ideal)) (wq : (cc0_stg1_0 : Ref sig .tc).ty.Contents (Elt Ideal))
    (wo : (cc0_stg2_0 : Ref sig .tc).ty.Contents (Elt Ideal)) (kb : (cc0_scratch0 : Ref sig .tc).ty.Contents (Elt Ideal))
    (vb : (cc0_scratch1 : Ref sig .tc).ty.Contents (Elt Ideal))
    (hx : ∀ i k, x (ix3 0 i k) = X (ix3 0 i k)) (hq : ∀ k c, wq (ix2 k c) = Wq (ix2 k c)) (ho : ∀ c d, wo (ix2 c d) = Wo (ix2 c d))
    (hk : ∀ (r : Fin 2304) c, kb (ix2 r c) = K (ix4 0 (⟨r.val, by omega⟩ : Fin 16384) (hd c) (ln c)))
    (hv : ∀ (r : Fin 2304) c, vb (ix2 r c) = V (ix4 0 (⟨r.val, by omega⟩ : Fin 16384) (hd c) (ln c))) (i : Fin 2048) (d : Fin 1024) :
    blocksOf (blkVal x wq wo kb vb) (ix3 0 i d) = ∑ c : Fin 1024, context X Wq K V i c * Wo (ix2 c d) := by
  have hw : ∀ (f : (cc0_stg1_0 : Ref sig .tc).ty.Contents (Elt Ideal)) k c,
      View.readAt (Elt Ideal) wqM.view (Rect.unit (s := S1024x1024) ![0, 0] S1024x1024.size inb_S1024x1024_S1024x1024_0_0).toLoadRect f (ix2 k c) = f (ix2 k c) :=
    fun f k c => congrArg f (funext fun i => Fin.ext (by fin_cases i <;> exact (Nat.zero_add _).trans (Nat.one_mul _)))
  obtain ⟨n, hn⟩ : ∃ n : Fin 8, n.val = i.val / 256 := ⟨⟨i.val / 256, by omega⟩, rfl⟩
  obtain ⟨r, hr⟩ : ∃ r : Fin 256, r.val = i.val % 256 := ⟨⟨i.val % 256, Nat.mod_lt _ (by decide)⟩, rfl⟩
  have e : blocksOf (blkVal x wq wo kb vb) (ix3 0 i d) = blkVal x wq wo kb vb n (ix3 0 r d) :=
    congrArg₂ (fun n r => blkVal x wq wo kb vb n (ix3 0 r d)) (Fin.ext hn.symm) (Fin.ext hr.symm)
  have hxc : ∀ k, View.readAt (Elt Ideal) xM.view (blkR n).toLoadRect x (ix3 0 r k) = X (ix3 0 i k) := fun k => by
    rw [← hx]
    refine congrArg x (funext fun a => Fin.ext ?_)
    fin_cases a
    · rfl
    · show 256 * n.val + 1 * r.val = i.val; omega
    · exact (Nat.zero_add _).trans (Nat.one_mul _)
  have hneg : ∀ b : Fin 512, (if n.val = 0 then k0_pay8 (F := Ideal) k0_pay7 else k0_pay6) (ix2 r b) = if near i.val (key i b).val then 0 else ⊥ := by
    intro b
    have hkey : (key i b).val = 256 * (i.val / 256) - 128 + b.val := rfl
    by_cases h : n.val = 0
    · rw [if_pos h, mask_top]
      exact if_congr (by rw [hkey]; unfold near; omega) rfl rfl
    · rw [if_neg h, mask_mid]
      exact if_congr (by rw [hkey]; unfold near; omega) rfl rfl
  refine e.trans ((chunk_at _ _ _ _ _ _ _ _).trans ?_)
  show @Eq EReal _ _
  refine Finset.sum_congr rfl fun c _ => ?_
  unfold context bandVal
  have hS : ∀ b, bandScore (if n.val = 0 then k0_pay8 (F := Ideal) k0_pay7 else k0_pay6)
      (qOf (k0_pay4 (View.readAt (Elt Ideal) wqM.view (Rect.unit (s := S1024x1024) ![0, 0] S1024x1024.size inb_S1024x1024_S1024x1024_0_0).toLoadRect wq))
        (View.readAt (Elt Ideal) xM.view (blkR n).toLoadRect x)) (View.readAt (Elt Ideal) kbM.view (bandR n).toLoadRect kb) r c b = score X Wq K i c b := by
    intro b
    unfold bandScore score
    rw [hneg]
    refine congrArg (· + _) (Finset.sum_congr rfl fun t _ => ?_)
    have hh : hd (hcol c t) = hd c := Fin.ext (by show (c.val / 128 * 128 + t.val) / 128 = c.val / 128; omega)
    have hl : ln (hcol c t) = t := Fin.ext (by show (c.val / 128 * 128 + t.val) % 128 = t.val; omega)
    rw [q_at, band_at, hk, hh, hl]
    have e4 : ∀ k c, k0_pay4 (View.readAt (Elt Ideal) wqM.view (Rect.unit (s := S1024x1024) ![0, 0] S1024x1024.size inb_S1024x1024_S1024x1024_0_0).toLoadRect wq) (ix2 k c)
        = Wq (ix2 k c) := fun k c => (pay4_at _ k c).trans ((hw wq k c).trans (hq k c))
    simp only [hxc, e4]
    congr 1
    exact congrArg (fun j => K (ix4 0 j (hd c) t)) (Fin.ext (by show 256 * n.val - 128 + b.val = 256 * (i.val / 256) - 128 + b.val; omega))
  simp only [hS]
  have e5 : k0_pay5 (View.readAt (Elt Ideal) woM.view (Rect.unit (s := S1024x1024) ![0, 0] S1024x1024.size inb_S1024x1024_S1024x1024_0_0).toLoadRect wo) (ix2 c d)
      = Wo (ix2 c d) := (pay5_at _ c d).trans ((hw wo c d).trans (ho c d))
  rw [e5]
  refine congrArg (fun z => z * _ * _) (Finset.sum_congr rfl fun b _ => ?_)
  rw [band_at', hv]
  refine congrArg (fun j => _ * V (ix4 0 j (hd c) (ln c))) (Fin.ext ?_)
  show 256 * n.val - 128 + b.val = 256 * (i.val / 256) - 128 + b.val
  omega

end

end Cert.Tree
end
-- ==== Proof.RefValue.lean ====
/-
  The reference's result at an index.
-/
module

public import proofs.«01_k».proof.Proof.Words
public import proofs.«01_k».proof.Proof.Gen.ReferenceIdeal.Run

@[expose] public section

noncomputable section

namespace Cert.Tree

open Cert.ReferenceIdeal Cert.ReferenceIdeal.Gen
open Idealize.ShloMosaic
open Idealize.ShloMosaic.TcCoe

section
variable (X : (⟨3, ![1, 2048, 1024]⟩ : Shape).Idx → EReal) (Wq : (⟨2, ![1024, 1024]⟩ : Shape).Idx → EReal)
  (K : (⟨4, ![1, 16384, 8, 128]⟩ : Shape).Idx → EReal)

/-- The masked score of row `i` against key row `j`, in the head of column `c`. -/
def refScore (i : Fin 2048) (c : Fin 1024) (j : Fin 16384) : EReal :=
  if i.val ≤ j.val + 128 ∧ j.val ≤ i.val + 128 then
    (∑ t : Fin 128, (∑ k : Fin 1024, X (ix3 0 i k) * Wq (ix2 k (⟨c.val / 128 * 128 + t.val, by omega⟩ : Fin 1024)))
      * K (ix4 0 j (⟨c.val / 128, by omega⟩ : Fin 8) t)) * Ideal.ofBits .f32 0x3DB504F3#32
  else ⊥

/-- The reference's result: each row's softmax over all keys against the values, times the output matrix. -/
def refOut (V : (⟨4, ![1, 16384, 8, 128]⟩ : Shape).Idx → EReal) (Wo : (⟨2, ![1024, 1024]⟩ : Shape).Idx → EReal) (i : Fin 2048) (d : Fin 1024) : EReal :=
  ∑ c : Fin 1024, (∑ j : Fin 16384, V (ix4 0 j (⟨c.val / 128, by omega⟩ : Fin 8) (⟨c.val % 128, Nat.mod_lt _ (by decide)⟩ : Fin 128))
      * Ideal.div (Ideal.exp (refScore X Wq K i c j - Finset.univ.fold max ⊥ (refScore X Wq K i c)))
          (∑ j' : Fin 16384, Ideal.exp (refScore X Wq K i c j' - Finset.univ.fold max ⊥ (refScore X Wq K i c))))
    * Wo (ix2 c d)

end

/-- The mask's bit at a row and a key. -/
theorem bit_row (i : Fin 2048) (j : Fin 16384) :
    IntOp.cmpi CmpIPredicate.sle (IntOp.absi (IntOp.subi (BitVec.ofNat 32 i.val) (BitVec.ofNat 32 j.val))) 128#32
      = if i.val ≤ j.val + 128 ∧ j.val ≤ i.val + 128 then 1#1 else 0#1 := near_word_0 _ _ (by omega) (by omega)

/-- Every row keeps a key: its own. -/
theorem bit_any (i : Fin 2048) :
    Finset.univ.fold IntOp.ori 0#1 (fun j : Fin 16384 => if i.val ≤ j.val + 128 ∧ j.val ≤ i.val + 128 then 1#1 else 0#1) = 1#1 :=
  or_set _ (⟨i.val, by omega⟩ : Fin 16384) (if_pos ⟨by dsimp only; omega, by dsimp only; omega⟩)

/-- A choice by a set bit. -/
theorem select_set {A : Type} (x y : A) : Scalar.select 1#1 x y = x := rfl

/-! ## The reference in stages -/

/-- The mask. -/
def nearA : IVec S2048x16384 1 :=
  cmpi .sle (absi (subi (broadcastInDim S2048x16384 ![0, 1] bcast_S2048x1_S2048x16384_0_1 (broadcastInDim S2048x1 ![0] bcast_S2048_S2048x1_0 (iotaInDim S2048 32 0)))
    (broadcastInDim S2048x16384 ![0, 1] bcast_S1x16384_S2048x16384_0_1 (broadcastInDim S1x16384 ![1] bcast_S16384_S1x16384_1 (iotaInDim S16384 32 0)))))
    (broadcastInDim S2048x16384 ![] bcast_S_S2048x16384 (constantI S_ 32 128#32))
/-- Whether the mask keeps a key of the row. -/
def anyA : IVec S2048 1 := Host.reduce IntOp.ori nearA (constantI S_ 1 0#1) reducesTo_S2048x16384_S2048_d1 h_S_
/-- The queries. -/
def qA (x : FVec Ideal S1x2048x1024 .bf16) (wq : FVec Ideal S1024x1024 .bf16) : FVec Ideal S1x2048x8x128 .f32 :=
  extf .f32 (shapeCast _ (truncf .bf16 (Host.dotGeneral dot_S1x2048x1024_S1024x1024_S1x2048x1024_2_0_01_1_n_n none x wq) bitsLt_bf16_f32)
    shapeCasts_S1x2048x1024_S1x2048x8x128) bitsLt_bf16_f32
/-- The masked scores. -/
def scoreA (q : FVec Ideal S1x2048x8x128 .f32) (k : FVec Ideal S1x16384x8x128 .f32) : FVec Ideal S1x8x2048x16384 .f32 :=
  select (broadcastInDim S1x8x2048x16384 ![0, 1, 2, 3] bcast_S1x1x2048x16384_S1x8x2048x16384_0_1_2_3
      (broadcastInDim S1x1x2048x16384 ![2, 3] bcast_S2048x16384_S1x1x2048x16384_2_3 nearA))
    (mulf (Host.dotGeneral dot_S1x2048x8x128_S1x16384x8x128_S1x8x2048x16384_3_3_1_1_02_02 none q k)
      (broadcastInDim S1x8x2048x16384 ![] bcast_S_S1x8x2048x16384 (constant S_ .f32 0x3DB504F3#32)))
    (broadcastInDim S1x8x2048x16384 ![] bcast_S_S1x8x2048x16384 (id (constant S_ .f32 0xFF800000#32)))
/-- The rows' maxima. -/
def maxA (s : FVec Ideal S1x8x2048x16384 .f32) : FVec Ideal S1x8x2048 .f32 :=
  Host.reduce FloatOps.maximumf s (constant S_ .f32 0xFF800000#32) reducesTo_S1x8x2048x16384_S1x8x2048_d3 h_S_
/-- The scores' exponentials, the maximum taken off. -/
def expA (s : FVec Ideal S1x8x2048x16384 .f32) (M : FVec Ideal S1x8x2048 .f32) : FVec Ideal S1x8x2048x16384 .f32 :=
  Host.exp (subf s (broadcastInDim S1x8x2048x16384 ![0, 1, 2, 3] bcast_S1x8x2048x1_S1x8x2048x16384_0_1_2_3
    (broadcastInDim S1x8x2048x1 ![0, 1, 2] bcast_S1x8x2048_S1x8x2048x1_0_1_2 M)))
/-- Their sums. -/
def sumA (e : FVec Ideal S1x8x2048x16384 .f32) : FVec Ideal S1x8x2048x1 .f32 :=
  select (broadcastInDim S1x8x2048x1 ![0, 1, 2, 3] bcast_S1x1x2048x1_S1x8x2048x1_0_1_2_3 (broadcastInDim S1x1x2048x1 ![2] bcast_S2048_S1x1x2048x1_2 anyA))
    (broadcastInDim S1x8x2048x1 ![0, 1, 2] bcast_S1x8x2048_S1x8x2048x1_0_1_2
      (Host.reduceAdd e (constant S_ .f32 0x00000000#32) reducesTo_S1x8x2048x16384_S1x8x2048_d3 h_S_))
    (broadcastInDim S1x8x2048x1 ![] bcast_S_S1x8x2048x1 (id (constant S_ .f32 0x3F800000#32)))
/-- The softmax's weights. -/
def probA (e : FVec Ideal S1x8x2048x16384 .f32) (w : FVec Ideal S1x8x2048x1 .f32) : FVec Ideal S1x8x2048x16384 .f32 :=
  select (broadcastInDim S1x8x2048x16384 ![0, 1, 2, 3] bcast_S1x1x2048x1_S1x8x2048x16384_0_1_2_3 (broadcastInDim S1x1x2048x1 ![2] bcast_S2048_S1x1x2048x1_2 anyA))
    (Host.divf e (broadcastInDim S1x8x2048x16384 ![0, 1, 2, 3] bcast_S1x8x2048x1_S1x8x2048x16384_0_1_2_3 w))
    (broadcastInDim S1x8x2048x16384 ![] bcast_S_S1x8x2048x16384 (id (constant S_ .f32 0x00000000#32)))
/-- The context rows. -/
def ctxA (v : FVec Ideal S1x16384x8x128 .f32) (p : FVec Ideal S1x8x2048x16384 .f32) : FVec Ideal S1x2048x1024 .f32 :=
  shapeCast _ (transpose S1x2048x8x128 [0, 3, 1, 2] (Host.dotGeneral dot_S1x16384x8x128_S1x8x2048x16384_S1x8x128x2048_1_3_3_2_02_01 none v p)
    transposes_S1x8x128x2048_S1x2048x8x128_0_3_1_2) shapeCasts_S1x2048x8x128_S1x2048x1024
/-- The result. -/
def outA (c : FVec Ideal S1x2048x1024 .f32) (wo : FVec Ideal S1024x1024 .bf16) : FVec Ideal S1x2048x1024 .bf16 :=
  truncf .bf16 (Host.dotGeneral dot_S1x2048x1024_S1024x1024_S1x2048x1024_2_0_01_1_n_n none c (extf .f32 wo bitsLt_bf16_f32)) bitsLt_bf16_f32

/-- The mask at a row and a key. -/
theorem nearA_at (i : Fin 2048) (j : Fin 16384) : nearA (ix2 i j) = if i.val ≤ j.val + 128 ∧ j.val ≤ i.val + 128 then 1#1 else 0#1 := by
  rw [← bit_row]
  unfold nearA
  pointwise

/-- The mask keeps a key of every row. -/
theorem anyA_at (i : Fin 2048) : anyA (ix1 i) = 1#1 := by
  unfold anyA
  pointwise
  simp only [nearA_at]
  exact bit_any i

/-- A query entry. -/
theorem qA_at (x : FVec Ideal S1x2048x1024 .bf16) (wq : FVec Ideal S1024x1024 .bf16) (i : Fin 2048) (h : Fin 8) (t : Fin 128) :
    @Eq EReal (qA x wq (ix4 0 i h t)) (∑ k : Fin 1024, x (ix3 0 i k) * wq (ix2 k (⟨h.val * 128 + t.val, by omega⟩ : Fin 1024))) := by
  unfold qA
  pointwise

/-- A masked score. -/
theorem scoreA_at (q : FVec Ideal S1x2048x8x128 .f32) (k : FVec Ideal S1x16384x8x128 .f32) (h : Fin 8) (i : Fin 2048) (j : Fin 16384) :
    @Eq EReal (scoreA q k (ix4 0 h i j)) (if i.val ≤ j.val + 128 ∧ j.val ≤ i.val + 128 then
        (∑ t : Fin 128, q (ix4 0 i h t) * k (ix4 0 j h t)) * Ideal.ofBits .f32 0x3DB504F3#32 else ⊥) := by
  rw [← select_if, ← nearA_at, ← bits_neg_inf]
  unfold scoreA
  pointwise
  rfl

/-- A row's maximum. -/
theorem maxA_at (s : FVec Ideal S1x8x2048x16384 .f32) (h : Fin 8) (i : Fin 2048) :
    @Eq EReal (maxA s (ix3 0 h i)) (Finset.univ.fold max ⊥ fun j : Fin 16384 => (s (ix4 0 h i j) : EReal)) := by
  rw [← bits_neg_inf]
  unfold maxA
  pointwise

/-- An exponential. -/
theorem expA_at (s : FVec Ideal S1x8x2048x16384 .f32) (M : FVec Ideal S1x8x2048 .f32) (h : Fin 8) (i : Fin 2048) (j : Fin 16384) :
    expA s M (ix4 0 h i j) = Ideal.exp (s (ix4 0 h i j) - M (ix3 0 h i)) := by
  unfold expA
  pointwise

/-- A row's sum. -/
theorem sumA_at (e : FVec Ideal S1x8x2048x16384 .f32) (h : Fin 8) (i : Fin 2048) :
    @Eq EReal (sumA e (ix4 0 h i 0)) (∑ j : Fin 16384, e (ix4 0 h i j)) := by
  unfold sumA
  pointwise
  rw [anyA_at]
  rfl

/-- A softmax weight. -/
theorem probA_at (e : FVec Ideal S1x8x2048x16384 .f32) (w : FVec Ideal S1x8x2048x1 .f32) (h : Fin 8) (i : Fin 2048) (j : Fin 16384) :
    @Eq EReal (probA e w (ix4 0 h i j)) (Ideal.div (e (ix4 0 h i j)) (w (ix4 0 h i 0))) := by
  unfold probA
  pointwise
  rw [anyA_at]
  rfl

/-- A context entry. -/
theorem ctxA_at (v : FVec Ideal S1x16384x8x128 .f32) (p : FVec Ideal S1x8x2048x16384 .f32) (i : Fin 2048) (c : Fin 1024) :
    @Eq EReal (ctxA v p (ix3 0 i c)) (∑ j : Fin 16384, v (ix4 0 j (⟨c.val / 128, by omega⟩ : Fin 8) (⟨c.val % 128, Nat.mod_lt _ (by decide)⟩ : Fin 128))
      * p (ix4 0 (⟨c.val / 128, by omega⟩ : Fin 8) i j)) := by
  unfold ctxA
  pointwise

/-- A result entry. -/
theorem outA_at (c : FVec Ideal S1x2048x1024 .f32) (wo : FVec Ideal S1024x1024 .bf16) (i : Fin 2048) (d : Fin 1024) :
    @Eq EReal (outA c wo (ix3 0 i d)) (∑ x : Fin 1024, c (ix3 0 i x) * wo (ix2 x d)) := by
  unfold outA
  pointwise

variable (m : (ℓ : Loc nD τ sig) → Buf (Elt Ideal) ℓ)

/-- The arrays of device 0. -/
abbrev r0 : FVec Ideal S1x2048x1024 .bf16 := m (((0 : Dev nD) : Thread nD τ).loc main_arg0)
abbrev r1 : FVec Ideal S1024x1024 .bf16 := m (((0 : Dev nD) : Thread nD τ).loc main_arg1)
abbrev r2 : FVec Ideal S1x16384x8x128 .f32 := m (((0 : Dev nD) : Thread nD τ).loc main_arg2)
abbrev r3 : FVec Ideal S1x16384x8x128 .f32 := m (((0 : Dev nD) : Thread nD τ).loc main_arg3)
abbrev r4 : FVec Ideal S1024x1024 .bf16 := m (((0 : Dev nD) : Thread nD τ).loc main_arg4)

/-- The result of the stages. -/
def refA (x : FVec Ideal S1x2048x1024 .bf16) (wq : FVec Ideal S1024x1024 .bf16) (k v : FVec Ideal S1x16384x8x128 .f32) (wo : FVec Ideal S1024x1024 .bf16) :
    FVec Ideal S1x2048x1024 .bf16 :=
  outA (ctxA v (probA (expA (scoreA (qA x wq) k) (maxA (scoreA (qA x wq) k))) (sumA (expA (scoreA (qA x wq) k) (maxA (scoreA (qA x wq) k)))))) wo

/-- The stages together, at an index. -/
theorem refA_at (x : FVec Ideal S1x2048x1024 .bf16) (wq : FVec Ideal S1024x1024 .bf16) (k v : FVec Ideal S1x16384x8x128 .f32)
    (wo : FVec Ideal S1024x1024 .bf16) (i : Fin 2048) (d : Fin 1024) : @Eq EReal (refA x wq k v wo (ix3 0 i d)) (refOut x wq k v wo i d) := by
  have hs : ∀ (c : Fin 1024) j, scoreA (qA x wq) k (ix4 0 (⟨c.val / 128, by omega⟩ : Fin 8) i j) = refScore x wq k i c j := fun c j => by
    rw [scoreA_at]
    unfold refScore
    simp only [qA_at]
  unfold refA
  rw [outA_at]
  unfold refOut
  simp only [ctxA_at, probA_at, sumA_at, expA_at, maxA_at, hs]

set_option maxRecDepth 8192 in
/-- The reference's run leaves what the stages give. -/
theorem stages : Value.res_main_v38 m 0 = refA (r0 m) (r1 m) (r2 m) (r3 m) (r4 m) := by
  unfold Value.res_main_v38 refA outA ctxA probA sumA expA maxA scoreA qA anyA nearA
  rfl

end Cert.Tree
end
-- ==== Proof.Finite.lean ====
/-
  What the precondition says: the entries of x, Wq and K_ext are real numbers.
-/
module

public import proofs.«01_k».proof.Defs
public import Idealize.ShloMosaic.Lib.ReduceAll
public import Idealize.ShloMosaic.Lib.Pointwise
public import Idealize.ShloMosaic.PureOps.Ideal.Laws

@[expose] public section

noncomputable section

namespace Cert.Tree

open Idealize.ShloMosaic

section
open Cert.Pre_finite_KernelIdeal
/-- The side conditions of the precondition, as it is read of the kernel's blocks. -/
instance preKernel : Cert.Pre_finite_KernelIdeal.Facts where
  bitsLt_bf16_f32 := by decide
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide
end

section
open Cert.Pre_finite_ReferenceIdeal
/-- The same, as it is read of the whole arrays. -/
instance preReference : Cert.Pre_finite_ReferenceIdeal.Facts where
  bitsLt_bf16_f32 := by decide
  bcast_S_S1x2048x1024 := by decide
  reducesTo_S1x2048x1024_S_d0_1_2 := by decide
  h_S_ := by decide
  bcast_S_S1024x1024 := by decide
  reducesTo_S1024x1024_S_d0_1 := by decide
  bcast_S_S1x16384x8x128 := by decide
  reducesTo_S1x16384x8x128_S_d0_1_2_3 := by decide
end

open Cert.Pre_finite_KernelIdeal

/-- An entry whose absolute value compares below infinity is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  induction x using EReal.rec with
  | coe r => exact ⟨r, rfl⟩
  | bot => exact absurd h (by simp [FloatOps.cmpf, FloatOps.absf, Ideal.ofBits, Ideal.ieee, Ideal.cmp])
  | top => exact absurd h (by simp [FloatOps.cmpf, FloatOps.absf, Ideal.ofBits, Ideal.ieee, Ideal.cmp])

/-- A conjunction of bits that is set has both set. -/
theorem and_one (a b : BitVec 1) (h : IntOp.andi a b = 1#1) : a = 1#1 ∧ b = 1#1 := by revert a b; decide

instance : Subsingleton S_.Idx := ⟨fun a b => funext fun i => i.elim0⟩

/-- The precondition on one device's blocks: every entry of x, Wq and K_ext is a real number. -/
theorem reals (x : FVec Ideal S1x2048x1024 .bf16) (wq : FVec Ideal S1024x1024 .bf16) (k v : FVec Ideal S1x2048x8x128 .f32) (wo : FVec Ideal S1024x1024 .bf16)
    (h : Cert.Pre_finite_KernelIdeal.fn (F := Ideal) x wq k v wo = fun _ => 1#1) :
    (∀ i : S1x2048x1024.Idx, ∃ r : ℝ, (x i : EReal) = r) ∧ (∀ i : S1024x1024.Idx, ∃ r : ℝ, (wq i : EReal) = r) ∧ ∀ i : S1x2048x8x128.Idx, ∃ r : ℝ, (k i : EReal) = r := by
  have h0 := congrFun h ix0
  dsimp only [fn] at h0
  obtain ⟨h1, h2⟩ := and_one _ _ h0
  obtain ⟨h3, h4⟩ := and_one _ _ h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

end Cert.Tree
end
-- ==== Proof.Equal.lean ====
/-
  The kernel's result is the reference's.
-/
module

public import proofs.«01_k».proof.Proof.Softmax
public import proofs.«01_k».proof.Proof.Value
public import proofs.«01_k».proof.Proof.RefValue
public import proofs.«01_k».proof.Proof.Finite
public import proofs.«01_k».proof.Proof.Frames
public import Idealize.ShloMosaic.Lib.Layout
public import Idealize.ShloMosaic.Lib.Pipeline.ValueKit

@[expose] public section

noncomputable section

namespace Cert.Tree

open Idealize.ShloMosaic
open Idealize.ShloMosaic.TcCoe
open Idealize.SL.Sem

section
variable (X : (⟨3, ![1, 2048, 1024]⟩ : Shape).Idx → EReal) (Wq Wo : (⟨2, ![1024, 1024]⟩ : Shape).Idx → EReal)
  (K V : (⟨4, ![1, 16384, 8, 128]⟩ : Shape).Idx → EReal)

/-- Places of a band are distinct key rows. -/
theorem key_inj (i : Fin 2048) : Function.Injective (key i) := fun a b h => by
  have h' : 256 * (i.val / 256) - 128 + a.val = 256 * (i.val / 256) - 128 + b.val := congrArg Fin.val h
  exact Fin.ext (by omega)

/-- Every key that the mask keeps lies in the band. -/
theorem key_near (i : Fin 2048) (j : Fin 16384) (h : near i.val j.val) : ∃ b, key i b = j :=
  ⟨⟨j.val - (256 * (i.val / 256) - 128), by unfold near at h; omega⟩,
    Fin.ext (show 256 * (i.val / 256) - 128 + (j.val - (256 * (i.val / 256) - 128)) = j.val by unfold near at h; omega)⟩

/-- One context entry: the kernel's band against the reference's softmax over all keys. -/
theorem context_eq (hX : ∀ i, ∃ r : ℝ, X i = r) (hW : ∀ i, ∃ r : ℝ, Wq i = r) (hK : ∀ i, ∃ r : ℝ, K i = r) (i : Fin 2048) (c : Fin 1024) :
    context X Wq K V i c = ∑ j : Fin 16384, V (ix4 0 j (hd c) (ln c))
      * Ideal.div (Ideal.exp (refScore X Wq K i c j - Finset.univ.fold max ⊥ (refScore X Wq K i c)))
          (∑ j' : Fin 16384, Ideal.exp (refScore X Wq K i c j' - Finset.univ.fold max ⊥ (refScore X Wq K i c))) := by
  choose x hx using hX
  choose w hw using hW
  choose k hk using hK
  let a : Fin 16384 → ℝ := fun j => (∑ t : Fin 128, (∑ e : Fin 1024, x (ix3 0 i e) * w (ix2 e (hcol c t))) * k (ix4 0 j (hd c) t)) * scale
  have hR : refScore X Wq K i c = masked (fun j => near i.val j.val) a := funext fun j => by
    unfold refScore masked
    refine if_congr Iff.rfl ?_ rfl
    show _ = (((∑ t : Fin 128, (∑ e : Fin 1024, x (ix3 0 i e) * w (ix2 e (hcol c t))) * k (ix4 0 j (hd c) t)) * scale : ℝ) : EReal)
    simp only [bits_scale, hx, hw, hk, EReal.coe_mul, coe_sum]
    rfl
  have hS : ∀ b, score X Wq K i c b = masked (fun j => near i.val j.val) a (key i b) := fun b => by
    unfold score masked
    simp only [bits_scale, hx, hw, hk, ← EReal.coe_mul, ← coe_sum]
    split
    · rw [add_zero]
      refine congrArg _ ?_
      show _ = (∑ t : Fin 128, (∑ e : Fin 1024, x (ix3 0 i e) * w (ix2 e (hcol c t))) * k (ix4 0 (key i b) (hd c) t)) * scale
      rw [Finset.sum_mul]
      exact Finset.sum_congr rfl fun t _ => by ring
    · exact EReal.add_bot _
  rw [hR]
  unfold context
  simp only [hS]
  exact softmax_band (fun j : Fin 16384 => near i.val j.val) a (key i) (key_inj i) (key_near i) ⟨i.val, by omega⟩
    ⟨Nat.le_add_right _ _, Nat.le_add_right _ _⟩ fun j => V (ix4 0 j (hd c) (ln c))

end

section
open Cert.KernelIdeal Cert.KernelIdeal.Gen

variable (m : (ℓ : Loc nD τ sig) → Buf (Elt Ideal) ℓ)

/-- The staged x of device 0. -/
theorem x_at (X : (⟨3, ![1, 2048, 1024]⟩ : Shape).Idx → EReal) (h : m (((0 : Dev nD) : Thread nD τ).loc main_arg0) = X) (i : Fin 2048) (k : Fin 1024) :
    xOf m 0 (ix3 0 i k) = X (ix3 0 i k) := by
  subst h
  unfold xOf
  blk_ext [iblk, V]
  all_goals first | rfl | (show 0 * _ + _ = _; omega)

/-- The staged Wq of device 0. -/
theorem wq_at (W : (⟨2, ![1024, 1024]⟩ : Shape).Idx → EReal) (h : m (((0 : Dev nD) : Thread nD τ).loc main_arg1) = W) (k c : Fin 1024) :
    wqOf m 0 (ix2 k c) = W (ix2 k c) := by
  subst h
  unfold wqOf
  blk_ext [iblk, V]
  all_goals first | rfl | (show 0 * _ + _ = _; omega)

/-- The staged Wo of device 0. -/
theorem wo_at (W : (⟨2, ![1024, 1024]⟩ : Shape).Idx → EReal) (h : m (((0 : Dev nD) : Thread nD τ).loc main_arg4) = W) (k c : Fin 1024) :
    woOf m 0 (ix2 k c) = W (ix2 k c) := by
  subst h
  unfold woOf
  blk_ext [iblk, V]
  all_goals first | rfl | (show 0 * _ + _ = _; omega)

/-- Rows of a device's block are rows of the whole array. -/
theorem block_at (c : Fin 8) (f : (⟨4, ![1, 2048, 8, 128]⟩ : Shape).Idx → EReal) (K : (⟨4, ![1, 16384, 8, 128]⟩ : Shape).Idx → EReal)
    (hf : f = Layout.block ⟨4, ![1, 2048, 8, 128]⟩ ⟨4, ![1, 16384, 8, 128]⟩ 1 8 c K) (j : Fin 2048) (h : Fin 8) (t : Fin 128) :
    f (ix4 0 j h t) = K (ix4 0 (⟨c.val * 2048 + j.val, by omega⟩ : Fin 16384) h t) := by
  rw [hf, Layout.block_apply]
  refine congrArg K (funext fun a => Fin.ext ?_)
  rw [Layout.Tiles.idx_val]
  fin_cases a <;> rfl

/-- Two arrays of the result's shape that agree at every row and column. -/
theorem ext3 (f g : (⟨3, ![1, 2048, 1024]⟩ : Shape).Idx → EReal) (h : ∀ i d, f (ix3 0 i d) = g (ix3 0 i d)) : f = g := by
  funext y
  have e : y = ix3 0 (y 1) (y 2) := funext fun a => by
    fin_cases a
    · exact Fin.ext (Nat.lt_one_iff.mp (y 0).isLt)
    · rfl
    · rfl
  rw [e]
  exact h _ _

/-- An array is real where its devices' blocks are. -/
theorem real_of_blocks (K : (⟨4, ![1, 16384, 8, 128]⟩ : Shape).Idx → EReal) (f : Fin 8 → (⟨4, ![1, 2048, 8, 128]⟩ : Shape).Idx → EReal)
    (hf : ∀ c, f c = Layout.block ⟨4, ![1, 2048, 8, 128]⟩ ⟨4, ![1, 16384, 8, 128]⟩ 1 8 c K) (hr : ∀ c i, ∃ r : ℝ, f c i = r) (y) : ∃ r : ℝ, K y = r := by
  have h1 : (y 1).val < 16384 := (y 1).isLt
  obtain ⟨r, h⟩ := hr ⟨(y 1).val / 2048, by omega⟩ (ix4 0 (⟨(y 1).val % 2048, Nat.mod_lt _ (by decide)⟩ : Fin 2048) (y 2) (y 3))
  refine ⟨r, (congrArg K (funext fun a => ?_)).trans ((block_at _ _ K (hf _) _ _ _).symm.trans h)⟩
  fin_cases a
  · exact Fin.ext (Nat.lt_one_iff.mp (y 0).isLt)
  · exact Fin.ext (show (y 1).val = (y 1).val / 2048 * 2048 + (y 1).val % 2048 by omega)
  · rfl
  · rfl

end

/-- From arrays the devices share, or hold blocks of, with x, Wq and K_ext real, the kernel's result is the reference's. -/
theorem algebraic : Cert.algebraic_KernelIdeal_ReferenceIdeal_pre_finite_KernelIdeal := by
  intro m g m' g' hpre hin
  have hr := fun c => reals _ _ _ _ _ (hpre c)
  have e : outOf m = Cert.ReferenceIdeal.Value.res_main_v38 m' 0 := by
    refine ext3 _ _ fun i d => ?_
    refine (blk_at (r0 m') (r1 m') (r4 m') (r2 m') (r3 m') _ _ _ _ _ (x_at m _ (hin 0).1) (wq_at m _ (hin 0).2.1) (wo_at m _ (hin 0).2.2.2.2)
      (kb_at _ _ _ _ (fun j h t => (block_at 0 _ _ (hin 0).2.2.1 j h t).trans ?_) (fun j h t => (block_at 1 _ _ (hin 1).2.2.1 j h t).trans ?_))
      (vb_at _ _ _ _ (fun j h t => (block_at 0 _ _ (hin 0).2.2.2.1 j h t).trans ?_) (fun j h t => (block_at 1 _ _ (hin 1).2.2.2.1 j h t).trans ?_)) i d).trans ?_
    · exact congrArg (fun z => r2 m' (ix4 0 z h t)) (Fin.ext (by show 0 * 2048 + j.val = j.val; omega))
    · exact congrArg (fun z => r2 m' (ix4 0 z h t)) (Fin.ext (by show 1 * 2048 + j.val = 2048 + j.val; omega))
    · exact congrArg (fun z => r3 m' (ix4 0 z h t)) (Fin.ext (by show 0 * 2048 + j.val = j.val; omega))
    · exact congrArg (fun z => r3 m' (ix4 0 z h t)) (Fin.ext (by show 1 * 2048 + j.val = 2048 + j.val; omega))
    rw [stages]
    refine Eq.trans ?_ (refA_at _ _ _ _ _ i d).symm
    have hX : ∀ y, ∃ r : ℝ, r0 m' y = r := fun y => by
      have := (hr 0).1 y
      rwa [(hin 0).1] at this
    have hW : ∀ y, ∃ r : ℝ, r1 m' y = r := fun y => by
      have := (hr 0).2.1 y
      rwa [(hin 0).2.1] at this
    have hK := real_of_blocks (r2 m') _ (fun c => (hin c).2.2.1) fun c => (hr c).2.2
    unfold refOut
    show @Eq EReal _ _
    exact Finset.sum_congr rfl fun c _ => congrArg (fun z : EReal => z * r4 m' (ix2 c d)) (context_eq _ _ _ _ hX hW hK i c)
  refine ⟨Cert.ReferenceIdeal.Value.res_main_v38 m' 0, ?_, ?_⟩
  · exact (θ_run (Cert.KernelIdeal.defs (F := Ideal)) _ ⟨m, fun _ => 0, g⟩).mono
      (fun r h c => ⟨((h.1 c).1).trans e, (h.1 c).2⟩) (run_final (F := Ideal) m g)
  · exact (θ_run (Cert.ReferenceIdeal.defs (F := Ideal)) _ ⟨m', fun _ => 0, g'⟩).mono (fun r h => h 0) (Cert.ReferenceIdeal.Value.run (F := Ideal) m' g')

end Cert.Tree
end
-- ==== Proof.lean ====
/-
  The claims of the kernel, assembled.
-/
module

public import proofs.«01_k».proof.Defs
public import proofs.«01_k».proof.Proof.Frames
public import proofs.«01_k».proof.Proof.Equal
public import proofs.«01_k».proof.Proof.Finite
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Cert.Tree.preKernel, Cert.Tree.preReference,
    Cert.Tree.frame_kernel, Cert.Tree.frame_ideal, fun m g _ => Cert.Tree.frame_ideal m g trivial,
    Cert.Tree.frame_reference, fun m g _ => Cert.Tree.frame_reference m g trivial, Cert.Tree.preserves, Cert.Tree.algebraic⟩

end Cert.Proof

end
